-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  IdealRules.named_const.Statement Cert.KernelIdeal.κ "mask" .f32 0xCE6E6B28#32 ⊥

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = Layout.block ⟨4, ![2, 128, 4, 64]⟩ ⟨4, ![2, 128, 32, 64]⟩ 2 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 4, 64]⟩ ⟨4, ![2, 128, 32, 64]⟩ 2 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S2x128x512 : Shape := ⟨3, ![2, 128, 512]⟩
abbrev S512x2048 : Shape := ⟨2, ![512, 2048]⟩
abbrev S2x128x4x64 : Shape := ⟨4, ![2, 128, 4, 64]⟩
abbrev S2048x512 : Shape := ⟨2, ![2048, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2x128x4x64 : S_.BroadcastsInDim S2x128x4x64 (![] : Fin 0 → Fin S2x128x4x64.rank)
  reducesTo_S2x128x4x64_S_d0_1_2_3 : S2x128x4x64.ReducesTo [0, 1, 2, 3] S_

variable [Facts]

def fn {F : FTy → Type} [FloatOps F] (main_arg0 : FVec F S2x128x512 .f32) (main_arg1 : FVec F S512x2048 .f32) (main_arg2 : FVec F S2x128x4x64 .f32) (main_arg3 : FVec F S2x128x4x64 .f32) (main_arg4 : FVec F S2048x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2x128x4x64 .f32 := Host.absf main_arg2
  let main_cst_2 : FVec F S_ .f32 := constant S_ .f32 0x7F800000#32
  let main_v10 : FVec F S2x128x4x64 .f32 := broadcastInDim S2x128x4x64 ![] bcast_S_S2x128x4x64 main_cst_2
  let main_v11 : IVec S2x128x4x64 1 := cmpf .olt main_v9 main_v10
  let main_c_3 : IVec S_ 1 := constantI S_ 1 1#1
  let main_v12 : IVec S_ 1 := (fun x v => Host.reduce IntOp.andi x v reducesTo_S2x128x4x64_S_d0_1_2_3 h_S_) main_v11 main_c_3
  let main_v13 : IVec S_ 1 := andi main_v8 main_v12
  main_v13
-- ==== Pre_finite_scores_ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S_ : Shape := ⟨0, ![]⟩

class Facts : Prop where
  bcast_S_S2x128x512 : S_.BroadcastsInDim S2x128x512 (![] : Fin 0 → Fin S2x128x512.rank)
  reducesTo_S2x128x512_S_d0_1_2 : S2x128x512.ReducesTo [0, 1, 2] S_
  h_S_ : 0 < S_.numel
  bcast_S_S512x2048 : S_.BroadcastsInDim S512x2048 (![] : Fin 0 → Fin S512x2048.rank)
  reducesTo_S512x2048_S_d0_1 : S512x2048.ReducesTo [0, 1] S_
  bcast_S_S2x128x32x64 : S_.BroadcastsInDim S2x128x32x64 (![] : Fin 0 → Fin S2x128x32x64.rank)
  reducesTo_S2x128x32x64_S_d0_1_2_3 : S2x128x32x64.ReducesTo [0, 1, 2, 3] S_

variable [Facts]

def fn {F : FTy → Type} [FloatOps F] (main_arg0 : FVec F S2x128x512 .f32) (main_arg1 : FVec F S512x2048 .f32) (main_arg2 : FVec F S2x128x32x64 .f32) (main_arg3 : FVec F S2x128x32x64 .f32) (main_arg4 : FVec F S2048x512 .f32) : IVec S_ 1 :=
  let main_v0 : FVec F S2x128x512 .f32 := Host.absf main_arg0
  let main_cst : FVec F S_ .f32 := constant S_ .f32 0x7F800000#32
  let main_v1 : FVec F S2x128x512 .f32 := broadcastInDim S2x128x512 ![] bcast_S_S2x128x512 main_cst
  let main_v2 : IVec S2x128x512 1 := cmpf .olt main_v0 main_v1
  let main_c : IVec S_ 1 := constantI S_ 1 1#1
  let main_v3 : IVec S_ 1 := (fun x v => Host.reduce IntOp.andi x v reducesTo_S2x128x512_S_d0_1_2 h_S_) main_v2 main_c
  let main_v4 : FVec F S512x2048 .f32 := Host.absf main_arg1
  let main_cst_0 : FVec F S_ .f32 := constant S_ .f32 0x7F800000#32
  let main_v5 : FVec F S512x2048 .f32 := broadcastInDim S512x2048 ![] bcast_S_S512x2048 main_cst_0
  let main_v6 : IVec S512x2048 1 := cmpf .olt main_v4 main_v5
  let main_c_1 : IVec S_ 1 := constantI S_ 1 1#1
  let main_v7 : IVec S_ 1 := (fun x v => Host.reduce IntOp.andi x v reducesTo_S512x2048_S_d0_1 h_S_) main_v6 main_c_1
  let main_v8 : IVec S_ 1 := andi main_v3 main_v7
  let main_v9 : FVec F S2x128x32x64 .f32 := Host.absf main_arg2
  let main_cst_2 : FVec F S_ .f32 := constant S_ .f32 0x7F800000#32
  let main_v10 : FVec F S2x128x32x64 .f32 := broadcastInDim S2x128x32x64 ![] bcast_S_S2x128x32x64 main_cst_2
  let main_v11 : IVec S2x128x32x64 1 := cmpf .olt main_v9 main_v10
  let main_c_3 : IVec S_ 1 := constantI S_ 1 1#1
  let main_v12 : IVec S_ 1 := (fun x v => Host.reduce IntOp.andi x v reducesTo_S2x128x32x64_S_d0_1_2_3 h_S_) main_v11 main_c_3
  let main_v13 : IVec S_ 1 := andi main_v8 main_v12
  main_v13
-- ==== Kernel.lean ====
abbrev S2x128x512 : Shape := ⟨3, ![2, 128, 512]⟩
abbrev S512x2048 : Shape := ⟨2, ![512, 2048]⟩
abbrev S2x128x4x64 : Shape := ⟨4, ![2, 128, 4, 64]⟩
abbrev S2048x512 : Shape := ⟨2, ![2048, 512]⟩
abbrev S_ : Shape := ⟨0, ![]⟩
abbrev S512x256 : Shape := ⟨2, ![512, 256]⟩
abbrev S256x512 : Shape := ⟨2, ![256, 512]⟩
abbrev S8x32x512 : Shape := ⟨3, ![8, 32, 512]⟩
abbrev S7 : Shape := ⟨1, ![7]⟩
abbrev S256x256 : Shape := ⟨2, ![256, 256]⟩
abbrev S256x4x64 : Shape := ⟨3, ![256, 4, 64]⟩
abbrev S256x64 : Shape := ⟨2, ![256, 64]⟩
abbrev S256x1x64 : Shape := ⟨3, ![256, 1, 64]⟩
abbrev S256 : Shape := ⟨1, ![256]⟩
abbrev S256x1 : Shape := ⟨2, ![256, 1]⟩
abbrev S1 : Shape := ⟨1, ![1]⟩
abbrev S1x32x512 : Shape := ⟨3, ![1, 32, 512]⟩
abbrev S32x512 : Shape := ⟨2, ![32, 512]⟩

abbrev nBuf : Space → Nat
  | .hbm => 30
  | .vmem => 8
  | .smem => 0
  | _ => 0

abbrev bufTy : (tb : Table) → Fin (tcTables nBuf tb) → BufTy
  | .hbm, ⟨0, _⟩ => ⟨S2x128x512, .f32⟩
  | .hbm, ⟨1, _⟩ => ⟨S512x2048, .f32⟩
  | .hbm, ⟨2, _⟩ => ⟨S2x128x4x64, .f32⟩
  | .hbm, ⟨3, _⟩ => ⟨S2x128x4x64, .f32⟩
  | .hbm, ⟨4, _⟩ => ⟨S2048x512, .f32⟩
  | .hbm, ⟨5, _⟩ => ⟨S_, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S_, .i32⟩
  | .hbm, ⟨17, _⟩ => ⟨S_, .i32⟩
  | .hbm, ⟨18, _⟩ => ⟨S_, .i32⟩
  | .hbm, ⟨19, _⟩ => ⟨S512x256, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i32⟩
  | .hbm, ⟨28, _⟩ => ⟨S256x512, .f32⟩
  | .hbm, ⟨29, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x4x64, .f32⟩
  | .local _ .vmem, ⟨3, _⟩ => ⟨S2x128x4x64, .f32⟩
  | .local _ .vmem, ⟨4, _⟩ => ⟨S256x512, .f32⟩
  | .local _ .vmem, ⟨5, _⟩ => ⟨S2x128x512, .f32⟩
  | .local _ .vmem, ⟨6, _⟩ => ⟨S256x512, .f32⟩
  | .local _ .vmem, ⟨7, _⟩ => ⟨S8x32x512, .f32⟩
  | _, _ => ⟨S2x128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  (ofTc nBuf bufTy 1 34 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_c_3 : Ref sig .tc := ⟨.hbm, 15, rfl⟩
abbrev main_v7 : Ref sig .tc := ⟨.hbm, 16, rfl⟩
abbrev main_v8 : Ref sig .tc := ⟨.hbm, 17, rfl⟩
abbrev main_c_4 : Ref sig .tc := ⟨.hbm, 18, rfl⟩
abbrev main_v9 : Ref sig .tc := ⟨.hbm, 19, rfl⟩
abbrev main_c_5 : Ref sig .tc := ⟨.hbm, 20, rfl⟩
abbrev main_v10 : Ref sig .tc := ⟨.hbm, 21, rfl⟩
abbrev main_c_6 : Ref sig .tc := ⟨.hbm, 22, rfl⟩
abbrev main_v11 : Ref sig .tc := ⟨.hbm, 23, rfl⟩
abbrev main_c_7 : Ref sig .tc := ⟨.hbm, 24, rfl⟩
abbrev main_v12 : Ref sig .tc := ⟨.hbm, 25, rfl⟩
abbrev main_v13 : Ref sig .tc := ⟨.hbm, 26, rfl⟩
abbrev main_c_8 : Ref sig .tc := ⟨.hbm, 27, rfl⟩
abbrev main_v14 : Ref sig .tc := ⟨.hbm, 28, rfl⟩
abbrev main_v15 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v4 : BitVec 32 := Scalar.addi v2 c1_i32_0
  let c8_i32_1 : BitVec 32 := 8#32
  let v5 : BitVec 32 := Scalar.remsi v4 c8_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v8 : BitVec 32 := Scalar.addi v2 c2_i32
  let c8_i32_4 : BitVec 32 := 8#32
  let v9 : BitVec 32 := Scalar.remsi v8 c8_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v12 : BitVec 32 := Scalar.addi v2 c3_i32
  let c8_i32_8 : BitVec 32 := 8#32
  let v13 : BitVec 32 := Scalar.remsi v12 c8_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 32 := Scalar.addi v2 c4_i32
  let c8_i32_12 : BitVec 32 := 8#32
  let v17 : BitVec 32 := Scalar.remsi v16 c8_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v20 : BitVec 32 := Scalar.addi v2 c5_i32
  let c8_i32_16 : BitVec 32 := 8#32
  let v21 : BitVec 32 := Scalar.remsi v20 c8_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v24 : BitVec 32 := Scalar.addi v2 c6_i32
  let c8_i32_20 : BitVec 32 := 8#32
  let v25 : BitVec 32 := Scalar.remsi v24 c8_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v28 : BitVec 32 := Scalar.addi v2 c7_i32
  let c8_i32_24 : BitVec 32 := 8#32
  let v29 : BitVec 32 := Scalar.remsi v28 c8_i32_24
  let c1_i32_26 : BitVec 32 := 1#32
  let v30 : BitVec 32 := Scalar.muli v29 c1_i32_26
  let v31 : BitVec 32 := Scalar.addi c0_i32_27 v30
  v31.toNat
def k0_off1 (d0 : Dev nD) (c1_i32_83 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v182 : BitVec 32 := Scalar.addi v2 c1_i32_83
  let c8_i32_84 : BitVec 32 := 8#32
  let v183 : BitVec 32 := Scalar.remsi v182 c8_i32_84
  let c32_i32 : BitVec 32 := 32#32
  let v184 : BitVec 32 := Scalar.muli v183 c32_i32
  let c0_i32_92 : BitVec 32 := 0#32
  ![v184.toNat, 0]
def k0_dev8 (d0 : Dev nD) : Nat :=
  let c0_i32_89 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_83 : BitVec 32 := 1#32
  let v182 : BitVec 32 := Scalar.addi v2 c1_i32_83
  let c8_i32_84 : BitVec 32 := 8#32
  let v183 : BitVec 32 := Scalar.remsi v182 c8_i32_84
  let c1_i32_88 : BitVec 32 := 1#32
  let v185 : BitVec 32 := Scalar.muli v183 c1_i32_88
  let v186 : BitVec 32 := Scalar.addi c0_i32_89 v185
  v186.toNat
def k0_dev9 (d0 : Dev nD) : Nat :=
  let c0_i32_100 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_93 : BitVec 32 := 2#32
  let v194 : BitVec 32 := Scalar.addi v2 c2_i32_93
  let c8_i32_94 : BitVec 32 := 8#32
  let v195 : BitVec 32 := Scalar.remsi v194 c8_i32_94
  let c1_i32_99 : BitVec 32 := 1#32
  let v197 : BitVec 32 := Scalar.muli v195 c1_i32_99
  let v198 : BitVec 32 := Scalar.addi c0_i32_100 v197
  v198.toNat
def k0_dev10 (d0 : Dev nD) : Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_104 : BitVec 32 := 3#32
  let v206 : BitVec 32 := Scalar.addi v2 c3_i32_104
  let c8_i32_105 : BitVec 32 := 8#32
  let v207 : BitVec 32 := Scalar.remsi v206 c8_i32_105
  let c1_i32_110 : BitVec 32 := 1#32
  let v209 : BitVec 32 := Scalar.muli v207 c1_i32_110
  let v210 : BitVec 32 := Scalar.addi c0_i32_111 v209
  v210.toNat
def k0_dev11 (d0 : Dev nD) : Nat :=
  let c0_i32_122 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_115 : BitVec 32 := 4#32
  let v218 : BitVec 32 := Scalar.addi v2 c4_i32_115
  let c8_i32_116 : BitVec 32 := 8#32
  let v219 : BitVec 32 := Scalar.remsi v218 c8_i32_116
  let c1_i32_121 : BitVec 32 := 1#32
  let v221 : BitVec 32 := Scalar.muli v219 c1_i32_121
  let v222 : BitVec 32 := Scalar.addi c0_i32_122 v221
  v222.toNat
def k0_dev12 (d0 : Dev nD) : Nat :=
  let c0_i32_133 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_126 : BitVec 32 := 5#32
  let v230 : BitVec 32 := Scalar.addi v2 c5_i32_126
  let c8_i32_127 : BitVec 32 := 8#32
  let v231 : BitVec 32 := Scalar.remsi v230 c8_i32_127
  let c1_i32_132 : BitVec 32 := 1#32
  let v233 : BitVec 32 := Scalar.muli v231 c1_i32_132
  let v234 : BitVec 32 := Scalar.addi c0_i32_133 v233
  v234.toNat
def k0_dev13 (d0 : Dev nD) : Nat :=
  let c0_i32_144 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_137 : BitVec 32 := 6#32
  let v242 : BitVec 32 := Scalar.addi v2 c6_i32_137
  let c8_i32_138 : BitVec 32 := 8#32
  let v243 : BitVec 32 := Scalar.remsi v242 c8_i32_138
  let c1_i32_143 : BitVec 32 := 1#32
  let v245 : BitVec 32 := Scalar.muli v243 c1_i32_143
  let v246 : BitVec 32 := Scalar.addi c0_i32_144 v245
  v246.toNat
def k0_dev14 (d0 : Dev nD) : Nat :=
  let c0_i32_155 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_148 : BitVec 32 := 7#32
  let v254 : BitVec 32 := Scalar.addi v2 c7_i32_148
  let c8_i32_149 : BitVec 32 := 8#32
  let v255 : BitVec 32 := Scalar.remsi v254 c8_i32_149
  let c1_i32_154 : BitVec 32 := 1#32
  let v257 : BitVec 32 := Scalar.muli v255 c1_i32_154
  let v258 : BitVec 32 := Scalar.addi c0_i32_155 v257
  v258.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c32_i32_159 : BitVec 32 := 32#32
  let v266 : BitVec 32 := Scalar.muli v2 c32_i32_159
  let v267 : Index := Scalar.indexCast v266
  let c0_160 : Index := 0#32
  ![v267.toNat, 0]
def k0_off3 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_245 : BitVec 32 := 4#32
  let v346 : BitVec 32 := Scalar.divsi v2 c4_i32_245
  let v349 : Index := Scalar.indexCast v346
  let c4_i32_246 : BitVec 32 := 4#32
  let v347 : BitVec 32 := Scalar.remsi v2 c4_i32_246
  let c32_i32_247 : BitVec 32 := 32#32
  let v348 : BitVec 32 := Scalar.muli v347 c32_i32_247
  let v350 : Index := Scalar.indexCast v348
  let c0_248 : Index := 0#32
  ![v349.toNat, v350.toNat, 0]
def k0_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_245 : BitVec 32 := 4#32
  let v346 : BitVec 32 := Scalar.divsi v2 c4_i32_245
  let c4_i32_246 : BitVec 32 := 4#32
  let v347 : BitVec 32 := Scalar.remsi v2 c4_i32_246
  let c32_i32_247 : BitVec 32 := 32#32
  let v348 : BitVec 32 := Scalar.muli v347 c32_i32_247
  let c0_i32_304 : BitVec 32 := 0#32
  ![v346.toNat, v348.toNat, 0]
def k0_dev15 (d0 : Dev nD) : Nat :=
  let c0_i32_303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_298 : BitVec 32 := 1#32
  let v389 : BitVec 32 := Scalar.addi v2 c1_i32_298
  let c8_i32_299 : BitVec 32 := 8#32
  let v390 : BitVec 32 := Scalar.remsi v389 c8_i32_299
  let c1_i32_302 : BitVec 32 := 1#32
  let v391 : BitVec 32 := Scalar.muli v390 c1_i32_302
  let v392 : BitVec 32 := Scalar.addi c0_i32_303 v391
  v392.toNat
def k0_dev16 (d0 : Dev nD) : Nat :=
  let c0_i32_311 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_306 : BitVec 32 := 2#32
  let v401 : BitVec 32 := Scalar.addi v2 c2_i32_306
  let c8_i32_307 : BitVec 32 := 8#32
  let v402 : BitVec 32 := Scalar.remsi v401 c8_i32_307
  let c1_i32_310 : BitVec 32 := 1#32
  let v403 : BitVec 32 := Scalar.muli v402 c1_i32_310
  let v404 : BitVec 32 := Scalar.addi c0_i32_311 v403
  v404.toNat
def k0_dev17 (d0 : Dev nD) : Nat :=
  let c0_i32_319 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_314 : BitVec 32 := 3#32
  let v413 : BitVec 32 := Scalar.addi v2 c3_i32_314
  let c8_i32_315 : BitVec 32 := 8#32
  let v414 : BitVec 32 := Scalar.remsi v413 c8_i32_315
  let c1_i32_318 : BitVec 32 := 1#32
  let v415 : BitVec 32 := Scalar.muli v414 c1_i32_318
  let v416 : BitVec 32 := Scalar.addi c0_i32_319 v415
  v416.toNat
def k0_dev18 (d0 : Dev nD) : Nat :=
  let c0_i32_327 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_322 : BitVec 32 := 4#32
  let v425 : BitVec 32 := Scalar.addi v2 c4_i32_322
  let c8_i32_323 : BitVec 32 := 8#32
  let v426 : BitVec 32 := Scalar.remsi v425 c8_i32_323
  let c1_i32_326 : BitVec 32 := 1#32
  let v427 : BitVec 32 := Scalar.muli v426 c1_i32_326
  let v428 : BitVec 32 := Scalar.addi c0_i32_327 v427
  v428.toNat
def k0_dev19 (d0 : Dev nD) : Nat :=
  let c0_i32_335 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_330 : BitVec 32 := 5#32
  let v437 : BitVec 32 := Scalar.addi v2 c5_i32_330
  let c8_i32_331 : BitVec 32 := 8#32
  let v438 : BitVec 32 := Scalar.remsi v437 c8_i32_331
  let c1_i32_334 : BitVec 32 := 1#32
  let v439 : BitVec 32 := Scalar.muli v438 c1_i32_334
  let v440 : BitVec 32 := Scalar.addi c0_i32_335 v439
  v440.toNat
def k0_dev20 (d0 : Dev nD) : Nat :=
  let c0_i32_343 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_338 : BitVec 32 := 6#32
  let v449 : BitVec 32 := Scalar.addi v2 c6_i32_338
  let c8_i32_339 : BitVec 32 := 8#32
  let v450 : BitVec 32 := Scalar.remsi v449 c8_i32_339
  let c1_i32_342 : BitVec 32 := 1#32
  let v451 : BitVec 32 := Scalar.muli v450 c1_i32_342
  let v452 : BitVec 32 := Scalar.addi c0_i32_343 v451
  v452.toNat
def k0_dev21 (d0 : Dev nD) : Nat :=
  let c0_i32_351 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_346 : BitVec 32 := 7#32
  let v461 : BitVec 32 := Scalar.addi v2 c7_i32_346
  let c8_i32_347 : BitVec 32 := 8#32
  let v462 : BitVec 32 := Scalar.remsi v461 c8_i32_347
  let c1_i32_350 : BitVec 32 := 1#32
  let v463 : BitVec 32 := Scalar.muli v462 c1_i32_350
  let v464 : BitVec 32 := Scalar.addi c0_i32_351 v463
  v464.toNat
def k0_off5 (d0 : Dev nD) (c1_i32_354 : BitVec 32) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v473 : BitVec 32 := Scalar.subi v2 c1_i32_354
  let c8_i32_355 : BitVec 32 := 8#32
  let v474 : BitVec 32 := Scalar.addi v473 c8_i32_355
  let c8_i32_356 : BitVec 32 := 8#32
  let v475 : BitVec 32 := Scalar.remsi v474 c8_i32_356
  let c4_i32_360 : BitVec 32 := 4#32
  let v479 : BitVec 32 := Scalar.divsi v475 c4_i32_360
  let c4_i32_361 : BitVec 32 := 4#32
  let v480 : BitVec 32 := Scalar.remsi v475 c4_i32_361
  let c32_i32_362 : BitVec 32 := 32#32
  let v481 : BitVec 32 := Scalar.muli v480 c32_i32_362
  let c0_i32_367 : BitVec 32 := 0#32
  ![v479.toNat, v481.toNat, 0]
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x4x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x4x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S2x128x512 : Shape := ⟨3, ![2, 128, 512]⟩
abbrev S512x2048 : Shape := ⟨2, ![512, 2048]⟩
abbrev S2x128x32x64 : Shape := ⟨4, ![2, 128, 32, 64]⟩
abbrev S2048x512 : Shape := ⟨2, ![2048, 512]⟩
abbrev S2x128x2048 : Shape := ⟨3, ![2, 128, 2048]⟩
abbrev S128 : Shape := ⟨1, ![128]⟩
abbrev S_ : Shape := ⟨0, ![]⟩
abbrev S128x1 : Shape := ⟨2, ![128, 1]⟩
abbrev S1x128 : Shape := ⟨2, ![1, 128]⟩
abbrev S128x128 : Shape := ⟨2, ![128, 128]⟩
abbrev S2x32x128x128 : Shape := ⟨4, ![2, 32, 128, 128]⟩
abbrev S1x1x128x128 : Shape := ⟨4, ![1, 1, 128, 128]⟩
abbrev S2x32x128 : Shape := ⟨3, ![2, 32, 128]⟩
abbrev S2x32x128x1 : Shape := ⟨4, ![2, 32, 128, 1]⟩
abbrev S1x1x128x1 : Shape := ⟨4, ![1, 1, 128, 1]⟩
abbrev S2x32x64x128 : Shape := ⟨4, ![2, 32, 64, 128]⟩

abbrev nBuf : Space → Nat
  | .hbm => 137
  | .vmem => 0
  | .smem => 0
  | _ => 0

abbrev hbmTy0_0 (i : Nat) : BufTy := match i % 128 with
  | 0 => ⟨S2x128x512, .f32⟩
  | 1 => ⟨S512x2048, .f32⟩
  | 2 => ⟨S2x128x32x64, .f32⟩
  | 3 => ⟨S2x128x32x64, .f32⟩
  | 4 => ⟨S2048x512, .f32⟩
  | 5 => ⟨S2x128x2048, .f32⟩
  | 6 => ⟨S2x128x32x64, .f32⟩
  | 7 => ⟨S128, .i32⟩
  | 8 => ⟨S_, .i32⟩
  | 9 => ⟨S_, .i32⟩
  | 10 => ⟨S128, .i32⟩
  | 11 => ⟨S128, .i32⟩
  | 12 => ⟨S128, .i32⟩
  | 13 => ⟨S_, .i32⟩
  | 14 => ⟨S128, .i32⟩
  | 15 => ⟨S128, .i1⟩
  | 16 => ⟨S128, .i32⟩
  | 17 => ⟨S128, .i32⟩
  | 18 => ⟨S_, .i32⟩
  | 19 => ⟨S128, .i32⟩
  | 20 => ⟨S128, .i1⟩
  | 21 => ⟨S128, .i1⟩
  | 22 => ⟨S_, .i32⟩
  | 23 => ⟨S128, .i32⟩
  | 24 => ⟨S128, .i32⟩
  | 25 => ⟨S128, .i32⟩
  | 26 => ⟨S128x1, .i32⟩
  | 27 => ⟨S128, .i32⟩
  | 28 => ⟨S_, .i32⟩
  | 29 => ⟨S_, .i32⟩
  | 30 => ⟨S128, .i32⟩
  | 31 => ⟨S128, .i32⟩
  | 32 => ⟨S128, .i32⟩
  | 33 => ⟨S_, .i32⟩
  | 34 => ⟨S128, .i32⟩
  | 35 => ⟨S128, .i1⟩
  | 36 => ⟨S128, .i32⟩
  | 37 => ⟨S128, .i32⟩
  | 38 => ⟨S_, .i32⟩
  | 39 => ⟨S128, .i32⟩
  | 40 => ⟨S128, .i1⟩
  | 41 => ⟨S128, .i1⟩
  | 42 => ⟨S_, .i32⟩
  | 43 => ⟨S128, .i32⟩
  | 44 => ⟨S128, .i32⟩
  | 45 => ⟨S128, .i32⟩
  | 46 => ⟨S1x128, .i32⟩
  | 47 => ⟨S128x128, .i32⟩
  | 48 => ⟨S128x128, .i32⟩
  | 49 => ⟨S128x128, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x128, .i32⟩
  | 57 => ⟨S1x128, .i32⟩
  | 58 => ⟨S_, .i32⟩
  | 59 => ⟨S1x128, .i32⟩
  | 60 => ⟨S1x128, .i1⟩
  | 61 => ⟨S_, .i32⟩
  | 62 => ⟨S1x128, .i32⟩
  | 63 => ⟨S1x128, .i1⟩
  | 64 => ⟨S_, .i32⟩
  | 65 => ⟨S_, .i1⟩
  | 66 => ⟨S1x128, .i1⟩
  | 67 => ⟨S1x128, .i1⟩
  | 68 => ⟨S1x128, .i1⟩
  | 69 => ⟨S1x128, .i32⟩
  | 70 => ⟨S1x128, .i32⟩
  | 71 => ⟨S1x128, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S128x1, .i32⟩
  | 79 => ⟨S128x1, .i32⟩
  | 80 => ⟨S_, .i32⟩
  | 81 => ⟨S128x1, .i32⟩
  | 82 => ⟨S128x1, .i1⟩
  | 83 => ⟨S_, .i32⟩
  | 84 => ⟨S128x1, .i32⟩
  | 85 => ⟨S128x1, .i1⟩
  | 86 => ⟨S_, .i32⟩
  | 87 => ⟨S_, .i1⟩
  | 88 => ⟨S128x1, .i1⟩
  | 89 => ⟨S128x1, .i1⟩
  | 90 => ⟨S128x1, .i1⟩
  | 91 => ⟨S128x1, .i32⟩
  | 92 => ⟨S128x1, .i32⟩
  | 93 => ⟨S128x1, .i32⟩
  | 94 => ⟨S128x128, .i32⟩
  | 95 => ⟨S128x128, .i32⟩
  | 96 => ⟨S128x128, .i1⟩
  | 97 => ⟨S128x128, .i1⟩
  | 98 => ⟨S2x32x128x128, .f32⟩
  | 99 => ⟨S_, .f32⟩
  | 100 => ⟨S2x32x128x128, .f32⟩
  | 101 => ⟨S2x32x128x128, .f32⟩
  | 102 => ⟨S1x1x128x128, .i1⟩
  | 103 => ⟨S_, .f32⟩
  | 104 => ⟨S_, .f32⟩
  | 105 => ⟨S2x32x128x128, .i1⟩
  | 106 => ⟨S2x32x128x128, .f32⟩
  | 107 => ⟨S2x32x128x128, .f32⟩
  | 108 => ⟨S_, .f32⟩
  | 109 => ⟨S2x32x128, .f32⟩
  | 110 => ⟨S2x32x128x1, .f32⟩
  | 111 => ⟨S2x32x128x128, .f32⟩
  | 112 => ⟨S2x32x128x128, .f32⟩
  | 113 => ⟨S2x32x128x128, .f32⟩
  | 114 => ⟨S_, .i1⟩
  | 115 => ⟨S128, .i1⟩
  | 116 => ⟨S1x1x128x1, .i1⟩
  | 117 => ⟨S_, .f32⟩
  | 118 => ⟨S2x32x128, .f32⟩
  | 119 => ⟨S2x32x128x1, .f32⟩
  | 120 => ⟨S_, .f32⟩
  | 121 => ⟨S_, .f32⟩
  | 122 => ⟨S2x32x128x1, .i1⟩
  | 123 => ⟨S2x32x128x1, .f32⟩
  | 124 => ⟨S2x32x128x1, .f32⟩
  | 125 => ⟨S2x32x128x128, .f32⟩
  | 126 => ⟨S2x32x128x128, .f32⟩
  | 127 => ⟨S1x1x128x1, .i1⟩
  | _ => ⟨S2x128x512, .f32⟩

abbrev hbmTy0_1 (i : Nat) : BufTy := match i % 128 with
  | 0 => ⟨S_, .f32⟩
  | 1 => ⟨S_, .f32⟩
  | 2 => ⟨S2x32x128x128, .i1⟩
  | 3 => ⟨S2x32x128x128, .f32⟩
  | 4 => ⟨S2x32x128x128, .f32⟩
  | 5 => ⟨S2x32x64x128, .f32⟩
  | 6 => ⟨S2x128x32x64, .f32⟩
  | 7 => ⟨S2x128x2048, .f32⟩
  | 8 => ⟨S2x128x512, .f32⟩
  | _ => ⟨S2x128x512, .f32⟩

abbrev hbmTy (i : Nat) : BufTy := match i / 128 with
  | 0 => hbmTy0_0 i
  | 1 => hbmTy0_1 i
  | _ => ⟨S2x128x512, .f32⟩

abbrev bufTy : (tb : Table) → Fin (tcTables nBuf tb) → BufTy
  | .hbm, ⟨i, _⟩ => hbmTy i
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Ring.lean ====
/-
Families indexed by the seven peers of a device, consumed front to back; the peers themselves; and the
semaphores, memrefs and element sets of the kernel, indexed by a peer instead of listed seven times.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Ring
public import Idealize.ShloMosaic.Lib.ShareLeaves
public import Idealize.ShloMosaic.Lib.Tactic

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

/-! ## Families over the seven peers -/

/-- The peer steps from `n` on. -/
abbrev stepsFrom (n : ℕ) : Finset (Fin 7) := Finset.univ.filter fun j => n ≤ j.val
/-- The peer steps before `n`. -/
abbrev stepsTo (n : ℕ) : Finset (Fin 7) := Finset.univ.filter fun j => j.val < n

theorem stepsFrom_zero : stepsFrom 0 = Finset.univ := by decide
theorem stepsFrom_end : stepsFrom 7 = ∅ := by decide
theorem stepsFrom_step (k : Fin 7) : stepsFrom k.val = insert k (stepsFrom (k.val + 1)) := by revert k; decide
theorem notMem_stepsFrom (k : Fin 7) : k ∉ stepsFrom (k.val + 1) := by revert k; decide
theorem stepsTo_zero : stepsTo 0 = ∅ := by decide
theorem stepsTo_end : stepsTo 7 = Finset.univ := by decide
theorem stepsTo_step (k : Fin 7) : stepsTo (k.val + 1) = insert k (stepsTo k.val) := by revert k; decide
theorem notMem_stepsTo (k : Fin 7) : k ∉ stepsTo k.val := by revert k; decide

section Fam
variable {M : Type} [URA M] (Φ : Fin 7 → sProp M)

/-- The members of a family that are still to be used at step `n`. -/
def ahead (n : ℕ) : sProp M := bigSep (stepsFrom n) Φ
/-- The members of a family that the steps before `n` have produced. -/
def behind (n : ℕ) : sProp M := bigSep (stepsTo n) Φ

theorem ahead_zero : bigSep Finset.univ Φ = ahead Φ 0 := by unfold ahead; rw [stepsFrom_zero]
theorem ahead_step (k : Fin 7) : ahead Φ k.val = iprop(Φ k ∗ ahead Φ (k.val + 1)) := by
  unfold ahead; rw [stepsFrom_step, BI.bigSep_insert (notMem_stepsFrom k)]; rfl
theorem ahead_end : ahead Φ 7 = iprop(emp) := by unfold ahead; rw [stepsFrom_end]; rfl
theorem behind_zero : behind Φ 0 = iprop(emp) := by unfold behind; rw [stepsTo_zero]; rfl
theorem behind_step (k : Fin 7) : behind Φ (k.val + 1) = iprop(Φ k ∗ behind Φ k.val) := by
  unfold behind; rw [stepsTo_step, BI.bigSep_insert (notMem_stepsTo k)]; rfl
theorem behind_end : behind Φ 7 = bigSep Finset.univ Φ := by unfold behind; rw [stepsTo_end]

end Fam

/-! ## Peers -/

/-- The device that is `k + 1` places after `c`. -/
def peer (k : Fin 7) (c : Dev nD) : Dev nD := ⟨(c.val + k.val + 1) % 8, Nat.mod_lt _ (by decide)⟩
/-- The device that is `k + 1` places before `c`. -/
def back (k : Fin 7) (c : Dev nD) : Dev nD := ⟨(c.val + 7 - k.val) % 8, Nat.mod_lt _ (by decide)⟩

theorem back_peer (k : Fin 7) (c : Dev nD) : back k (peer k c) = c := by revert k c; decide
theorem peer_back (k : Fin 7) (c : Dev nD) : peer k (back k c) = c := by revert k c; decide
theorem peer_rev (k : Fin 7) (c : Dev nD) : peer k.rev (peer k c) = c := by revert k c; decide
theorem back_eq_peer_rev (k : Fin 7) (c : Dev nD) : back k c = peer k.rev c := by revert k c; decide
theorem peer_ne (k : Fin 7) (c : Dev nD) : peer k c ≠ c := by revert k c; decide
theorem peer_inj (c : Dev nD) : Function.Injective (fun k => peer k c) := by revert c; decide

/-- Going `k + 1` places on is a permutation of the devices. -/
def peerEquiv (k : Fin 7) : Dev nD ≃ Dev nD := ⟨peer k, back k, back_peer k, peer_back k⟩

/-- The eight devices are `c` and its seven peers. -/
def around (c : Dev nD) : Option (Fin 7) → Dev nD := fun o => o.elim c fun k => peer k c
theorem around_bij (c : Dev nD) : Function.Bijective (around c) := by revert c; decide
theorem bigSep_around {M : Type} [URA M] (c : Dev nD) (Φ : Dev nD → sProp M) :
    bigSep Finset.univ Φ = iprop(Φ c ∗ bigSep Finset.univ fun k => Φ (peer k c)) := by
  rw [BI.bigSep_univ_equiv (Equiv.ofBijective _ (around_bij c)) Φ,
    show (Finset.univ : Finset (Option (Fin 7))) = insert none (Finset.univ.map Function.Embedding.some) from by decide,
    BI.bigSep_insert (by decide), BI.bigSep_map]
  rfl
theorem bigSep_around_back {M : Type} [URA M] (c : Dev nD) (Φ : Dev nD → sProp M) :
    bigSep Finset.univ Φ = iprop(Φ c ∗ bigSep Finset.univ fun k => Φ (back k c)) := by
  rw [bigSep_around c Φ, BI.bigSep_univ_equiv (Fin.revPerm (n := 7)) fun k => Φ (peer k c)]
  simp only [back_eq_peer_rev, Fin.revPerm_apply]

/-! ## Semaphores -/

/-- The runtime's barrier semaphore. -/
abbrev barS : Sem sig := (SemArray.scalar (sig.barrier 0 rfl) : Sems sig S_).sem
/-- The four arrays of seven transfer semaphores: sends of the first exchange, its receives, sends of the second, its receives. -/
def xs (a : Fin 4) (k : Fin 7) : DmaSem sig := ⟨6 + 7 * a.val + k.val, by have := a.isLt; have := k.isLt; show _ < 34; omega⟩
/-- Which array a transfer semaphore lies in, and where. -/
def arrOf (s : DmaSem sig) : ℕ := (s.val - 6) / 7
def posOf (s : DmaSem sig) : Fin 7 := ⟨(s.val - 6) % 7, Nat.mod_lt _ (by decide)⟩
theorem arrOf_xs (a : Fin 4) (k : Fin 7) : arrOf (xs a k) = a.val := by revert a k; decide
theorem posOf_xs (a : Fin 4) (k : Fin 7) : posOf (xs a k) = k := by revert a k; decide
theorem six_le_xs (a : Fin 4) (k : Fin 7) : 6 ≤ (xs a k).val := by revert a k; decide
theorem xs_inj {a b : Fin 4} {k j : Fin 7} (h : xs a k = xs b j) : a = b ∧ k = j := by
  revert a b k j; decide

abbrev barCell (c : Dev nD) : GSem nD τ sig := ((c : Thread nD τ), .reg barS)
abbrev xCell (c : Dev nD) (a : Fin 4) (k : Fin 7) : GSem nD τ sig := ((c : Thread nD τ), .dma (xs a k))

theorem barCell_inj {c c' : Dev nD} (h : barCell c = barCell c') : c = c' := (Prod.ext_iff.mp (Prod.ext_iff.mp h).1).1
theorem xCell_inj {c c' : Dev nD} {a b : Fin 4} {k j : Fin 7} (h : xCell c a k = xCell c' b j) : c = c' ∧ a = b ∧ k = j :=
  ⟨(Prod.ext_iff.mp (Prod.ext_iff.mp h).1).1, xs_inj (SemLoc.dma.inj (Prod.ext_iff.mp h).2)⟩
theorem xCell_ne_bar {c c' : Dev nD} {a : Fin 4} {k : Fin 7} : xCell c a k ≠ barCell c' := fun h => by
  have := (Prod.ext_iff.mp h).2; cases this

/-! ## Memrefs and element sets -/

abbrev outM : Memref sig .tc .vmem S2x128x512 .f32 := Memref.whole cc0_stg5_0
abbrev parM : Memref sig .tc .vmem S256x512 .f32 := Memref.whole cc0_scratch0
abbrev bufM : Memref sig .tc .vmem S8x32x512 .f32 := Memref.whole cc0_scratch1

theorem slot_inb (j : Fin 8) : ∀ a, (![j.val, 0, 0] : Fin 3 → Nat) a + S1x32x512.size a ≤ S8x32x512.size a := by revert j; decide
theorem row_inb (e : Dev nD) : ∀ a, (![32 * e.val, 0] : Fin 2 → Nat) a + S32x512.size a ≤ S256x512.size a := by revert e; decide
theorem out_inb (e : Dev nD) : ∀ a, (![e.val / 4, 32 * (e.val % 4), 0] : Fin 3 → Nat) a + S1x32x512.size a ≤ S2x128x512.size a := by revert e; decide

/-- Slot `j` of the receive buffer. -/
abbrev slotR (j : Fin 8) : Rect S8x32x512 := Rect.unit (s := S8x32x512) ![j.val, 0, 0] S1x32x512.size (slot_inb j)
/-- The 32 rows of the partial product that device `e` reduces. -/
abbrev rowR (e : Dev nD) : Rect S256x512 := Rect.unit (s := S256x512) ![32 * e.val, 0] S32x512.size (row_inb e)
/-- The 32 rows of the result that device `e` reduces. -/
abbrev outR (e : Dev nD) : Rect S2x128x512 := Rect.unit (s := S2x128x512) ![e.val / 4, 32 * (e.val % 4), 0] S1x32x512.size (out_inb e)

theorem unit_congr {s : Shape} {off off' size : Fin s.rank → Nat} (h : ∀ a, off a + size a ≤ s.size a) (h' : ∀ a, off' a + size a ≤ s.size a)
    (e : off = off') : Rect.unit (s := s) off size h = Rect.unit off' size h' := by subst e; rfl

/-- The rows sent to peer `k`, as the kernel slices them. -/
abbrev rowM (c : Dev nD) (k : Fin 7) : Memref sig .tc .vmem S32x512 .f32 :=
  parM.slice (Rect.unit (s := S256x512) (k0_off1 c (BitVec.ofNat 32 (1 + k.val))) S32x512.size (k0_off1_inb c k)) (fun _ => rfl)
theorem slotk_inb (k : Fin 7) : ∀ a, (![1 + k.val, 0, 0] : Fin 3 → Nat) a + S1x32x512.size a ≤ S8x32x512.size a := by revert k; decide
/-- The slot that the device `k + 1` places before fills, as the kernel slices it. -/
abbrev slotM (k : Fin 7) : Memref sig .tc .vmem S32x512 .f32 :=
  (bufM.slice (Rect.unit (s := S8x32x512) ![1 + k.val, 0, 0] S1x32x512.size (slotk_inb k)) (fun _ => rfl)).squeeze S32x512 squeezes_S1x32x512_S32x512
/-- A device's own rows of the result, as the kernel slices them. -/
abbrev ownM (c : Dev nD) : Memref sig .tc .vmem S32x512 .f32 :=
  (outM.slice (Rect.unit (s := S2x128x512) (k0_off4 c) S1x32x512.size (k0_off4_inb c)) (fun _ => rfl)).squeeze S32x512 squeezes_S1x32x512_S32x512

theorem off1_eq (c : Dev nD) (k : Fin 7) : k0_off1 c (BitVec.ofNat 32 (1 + k.val)) = ![32 * (peer k c).val, 0] := k0_off1_eq c k

theorem rowM_set (c : Dev nD) (k : Fin 7) : (rowM c k).view.set = (rowR (peer k c)).set :=
  (View.set_slice_whole _ _).trans (congrArg (fun r : Rect _ => r.set) (unit_congr _ _ (off1_eq c k)))
theorem slotM_set (k : Fin 7) : (slotM k).view.set = (slotR k.succ).set :=
  (View.set_reshape _ _).trans ((View.set_slice_whole _ _).trans (congrArg (fun r : Rect _ => r.set) (unit_congr _ _ (by rw [Nat.add_comm]; rfl))))
theorem ownM_set (c : Dev nD) : (ownM c).view.set = (outR c).set :=
  (View.set_reshape _ _).trans ((View.set_slice_whole _ _).trans (congrArg (fun r : Rect _ => r.set) (unit_congr _ _ (k0_off4_eq c))))

/-! ## What a transfer of one block credits -/

theorem N_slot (k : Fin 7) : (slotM k).view.dmaCredit = (slotM 0).view.dmaCredit := rfl
theorem N_own (c : Dev nD) : (ownM c).view.dmaCredit = (slotM 0).view.dmaCredit := rfl

end Cert.Proof

end
-- ==== Proof.Protocol.lean ====
/-
The protocol of the kernel: what each semaphore's round hands over, who pays it, what each device owes at the
start, and the order in which waits may block.

A device's barrier semaphore has one round of seven units, one from each peer. The peer `k + 1` places on hands over
its slot `k + 1`, the rows of its result that this device will send, and that its two receive semaphores `k` are open.
Each transfer semaphore has one round paid by one block: a receive semaphore hands over the landed block, a send
semaphore the share of the source that was lent.
-/
module

public import proofs.«01_k».proof.Proof.Ring

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The exchange's ghost state: rounds with up to seven duties. -/
abbrev UB : Type := URounds (GSem nD τ sig) (Fin 7)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-- The contents of a device's partial product and of the result. -/
abbrev Part (F : FTy → Type) : Type := (cc0_scratch0 : Ref sig .tc).ty.Contents (Elt F)
abbrev Res (F : FTy → Type) : Type := (cc0_stg5_0 : Ref sig .tc).ty.Contents (Elt F)
abbrev Slots (F : FTy → Type) : Type := (cc0_scratch1 : Ref sig .tc).ty.Contents (Elt F)

/-- The device whose block slot `j` of device `c` receives. -/
def srcDev (c : Dev nD) (j : Fin 8) : Dev nD := ⟨(c.val + 8 - j.val) % 8, Nat.mod_lt _ (by decide)⟩
theorem srcDev_succ (c : Dev nD) (k : Fin 7) : srcDev c k.succ = back k c := by revert c k; decide
theorem srcDev_peer (c : Dev nD) (k : Fin 7) : srcDev (peer k c) k.succ = c := by revert c k; decide

/-- A device's receive buffer when every block has landed: slot `j` holds its rows of the `j`-th device before it. -/
def landed (X : Dev nD → Part F) (c : Dev nD) : Slots F := fun i => X (srcDev c (i 0)) ((rowR c).emb fun a => i a.succ)

def slotPts (c : Dev nD) (k : Fin 7) (f : Slots F) : sProp 𝕄 := ((c : Thread nD τ).loc cc0_scratch1) ↦[(slotR k.succ).set]{fullShare} f
def partPts (X : Dev nD → Part F) (c e : Dev nD) : sProp 𝕄 := ((c : Thread nD τ).loc cc0_scratch0) ↦[(rowR e).set]{fullShare} X c
def outPts (c e : Dev nD) (q : PosShare TreeShare) (f : Res F) : sProp 𝕄 := ((c : Thread nD τ).loc cc0_stg5_0) ↦[(outR e).set]{q} f

/-- The share of its own rows that a device lends to its `k`-th copy of the second exchange. -/
def lent (k : Fin 7) : PosShare TreeShare := ShareLeaves.leaf 3 fullShare k.succ

/-- What the `j`-th unit of device `e`'s barrier hands over. -/
def barPay (e : Dev nD) (j : Fin 7) : sProp 𝕄 :=
  iprop((∃ f : Slots F, slotPts (peer j e) j f) ∗ (∃ f : Res F, outPts (peer j e) e fullShare f)
    ∗ reached ER (xCell (peer j e) 1 j) 0 ∗ reached ER (xCell (peer j e) 3 j) 0)

/-- What transfer semaphore `k` of array `a` hands device `c`. -/
def xPay (X : Dev nD → Part F) (G : Res F) (c : Dev nD) : ℕ → Fin 7 → sProp 𝕄
  | 0, k => partPts X c (peer k c)
  | 1, k => slotPts c k (landed X c)
  | 2, k => outPts c c (lent k) G
  | _, k => outPts c (back k c) fullShare G

instance barPay_storable (e : Dev nD) (j : Fin 7) : BI.Storable (upEmb : UEmb _ 𝕄) (barPay (F := F) e j) := by
  unfold barPay slotPts outPts; infer_instance
instance xPay_storable (X : Dev nD → Part F) (G : Res F) (c : Dev nD) (a : ℕ) (k : Fin 7) :
    BI.Storable (upEmb : UEmb _ 𝕄) (xPay X G c a k) := by
  unfold xPay partPts slotPts outPts; split <;> infer_instance

/-- The credit of one block. -/
abbrev N : ℕ := (slotM 0).view.dmaCredit
theorem N_pos : 0 < N := View.dmaCredit_pos _ (by decide)

/-- A transfer semaphore of the exchanges, not of the staging. -/
def isX : SemLoc sig → Bool
  | .dma s => decide (6 ≤ s.val)
  | .reg _ => false
abbrev IsBar (g : GSem nD τ sig) : Prop := g.1.2 = .tc ∧ g.2 = .reg barS
abbrev IsXfer (g : GSem nD τ sig) : Prop := g.1.2 = .tc ∧ isX g.2 = true

theorem isX_xs (a : Fin 4) (k : Fin 7) : isX (.dma (xs a k)) = true := decide_eq_true (six_le_xs a k)

/-- The payload of a round by the semaphore. -/
def payOf (X : Dev nD → Part F) (G : Res F) (c : Dev nD) (d : Fin 7) : SemLoc sig → sProp 𝕄
  | .reg _ => barPay c d
  | .dma s => xPay X G c (arrOf s) (posOf s)

instance payOf_storable (X : Dev nD → Part F) (G : Res F) (c : Dev nD) (d : Fin 7) (s : SemLoc sig) :
    BI.Storable (upEmb : UEmb _ 𝕄) (payOf X G c d s) := by
  cases s <;> (unfold payOf; infer_instance)

variable (X : Dev nD → Part F) (G : Res F)

def sched : Rounds.Schedule (GSem nD τ sig) (Fin 7) 𝕄 where
  duties g r := if r = 0 ∧ IsBar g then Finset.univ else if r = 0 ∧ IsXfer g then {0} else ∅
  unitless _ := False
  amount g _ _ := if g.2 = .reg barS then 1 else N
  payload g _ d := payOf X G g.1.1 d g.2
  amount_pos g _ _ _ := by
    by_cases h : g.2 = .reg barS
    · rw [if_pos h]; exact Nat.one_pos
    · rw [if_neg h]; exact N_pos

instance sched_payload_storable (g : GSem nD τ sig) (r : ℕ) (d : Fin 7) :
    BI.Storable (upEmb : UEmb _ 𝕄) ((sched X G).payload g r d) := by
  show BI.Storable upEmb (payOf X G g.1.1 d g.2); infer_instance

section Tables
variable (c : Dev nD) (a : Fin 4) (k : Fin 7)

theorem x_ne_bar : (SemLoc.dma (xs a k) : SemLoc sig) ≠ .reg barS := fun h => by cases h

theorem duties_bar : (sched X G).duties (barCell c) 0 = Finset.univ := by dsimp only [sched]; exact if_pos ⟨rfl, rfl, rfl⟩
theorem duties_x : (sched X G).duties (xCell c a k) 0 = {0} := by
  dsimp only [sched]; rw [if_neg (fun h => x_ne_bar a k h.2.2)]; exact if_pos ⟨rfl, rfl, isX_xs a k⟩
theorem duties_later (g : GSem nD τ sig) : ∀ r, 1 ≤ r → (sched X G).duties g r = ∅ :=
  fun r hr => by dsimp only [sched]; rw [if_neg fun h => by omega, if_neg fun h => by omega]

theorem amount_bar (d : Fin 7) : (sched X G).amount (barCell c) 0 d = 1 := by dsimp only [sched]; exact if_pos rfl
theorem amount_x (d : Fin 7) : (sched X G).amount (xCell c a k) 0 d = N := by dsimp only [sched]; exact if_neg (x_ne_bar a k)

theorem expect_bar : (sched X G).expect (barCell c) 0 = 7 := by
  unfold Schedule.expect Schedule.amountOf
  rw [duties_bar, Finset.sum_congr rfl fun d _ => amount_bar X G c d, Finset.sum_const, Finset.card_univ, Fintype.card_fin, smul_eq_mul]
theorem expect_x : (sched X G).expect (xCell c a k) 0 = N := by
  unfold Schedule.expect Schedule.amountOf; rw [duties_x, Finset.sum_singleton, amount_x]

theorem payload_bar (d : Fin 7) : (sched X G).payload (barCell c) 0 d = barPay c d := rfl
theorem payload_x (d : Fin 7) : (sched X G).payload (xCell c a k) 0 d = xPay X G c a.val k := by
  show xPay X G c (arrOf (xs a k)) (posOf (xs a k)) = _
  rw [arrOf_xs, posOf_xs]

theorem rest_bar : bigSep ((sched X G).duties (barCell c) 0 \ ∅) (fun d => (sched X G).payload (barCell c) 0 d)
    = bigSep Finset.univ fun j => barPay (F := F) c j := by
  rw [Finset.sdiff_empty, duties_bar]; rfl
theorem rest_x : bigSep ((sched X G).duties (xCell c a k) 0 \ ∅) (fun d => (sched X G).payload (xCell c a k) 0 d)
    = xPay X G c a.val k := by
  rw [Finset.sdiff_empty, duties_x, BI.bigSep_singleton, payload_x]

end Tables

/-! ## What a device owes, and the levels -/

/-- What device `c` still owes when it has signalled its first `a` peers and started the first `b` copies of the first
    exchange and the first `e` of the second. -/
def owing (c : Dev nD) (a b e : ℕ) : CellTallies nD τ sig Unit :=
  (∑ k ∈ stepsFrom a, tallyAt (barCell (peer k c)) () 1) + (∑ k ∈ stepsFrom b, tallyAt (xCell (peer k c) 1 k) () N)
    + ∑ k ∈ stepsFrom e, tallyAt (xCell (peer k c) 3 k) () N

theorem owing_bar (c : Dev nD) (k : Fin 7) (b e : ℕ) :
    owing c k.val b e = owing c (k.val + 1) b e + tallyAt (barCell (peer k c)) () 1 := by
  unfold owing; rw [stepsFrom_step k, Finset.sum_insert (notMem_stepsFrom k)]; abel
theorem owing_rs (c : Dev nD) (k : Fin 7) (a e : ℕ) :
    owing c a k.val e = owing c a (k.val + 1) e + tallyAt (xCell (peer k c) 1 k) () N := by
  unfold owing; rw [stepsFrom_step k, Finset.sum_insert (notMem_stepsFrom k)]; abel
theorem owing_ag (c : Dev nD) (k : Fin 7) (a b : ℕ) :
    owing c a b k.val = owing c a b (k.val + 1) + tallyAt (xCell (peer k c) 3 k) () N := by
  unfold owing; rw [stepsFrom_step k, Finset.sum_insert (notMem_stepsFrom k)]; abel
theorem owing_none (c : Dev nD) : owing c 7 7 7 = 0 := by
  unfold owing; rw [stepsFrom_end]; simp

def L (g : GSem nD τ sig) : Finset Unit := if g.1.2 = .tc then {()} else ∅
/-- The barrier is below the receives of the first exchange, those below the receives of the second; staging and sends are lowest. -/
def semLev : SemLoc sig → ℕ
  | .reg _ => 1
  | .dma s => if arrOf s = 1 then 2 else if arrOf s = 3 then 3 else 0
def lv (g : GSem nD τ sig) (_ : Unit) : ℕ := semLev g.2

theorem L_of_ne (g : GSem nD τ sig) (h : g.1.2 ≠ .tc) : L g = ∅ := if_neg h
theorem L_tc (c : Dev nD) (sm : SemLoc sig) : L ((c : Thread nD τ), sm) = {()} := if_pos rfl
theorem lv_rs (c : Dev nD) (k : Fin 7) : lv (xCell c 1 k) () = 2 := by
  show semLev (.dma (xs 1 k)) = 2; revert k; decide
theorem lv_ag (c : Dev nD) (k : Fin 7) : lv (xCell c 3 k) () = 3 := by
  show semLev (.dma (xs 3 k)) = 3; revert k; decide

theorem sum_tally_pos {s : Finset (Fin 7)} {f : Fin 7 → GSem nD τ sig} {n : ℕ} {g : GSem nD τ sig} {u : Unit}
    (h : 0 < (∑ k ∈ s, tallyAt (f k) () n) g u) : ∃ k, k ∈ s ∧ g = f k := by
  induction s using Finset.induction_on with
  | empty => rw [Finset.sum_empty] at h; exact absurd h (Nat.lt_irrefl 0)
  | insert a s ha ih =>
    rw [Finset.sum_insert ha, Pi.add_apply, Finsupp.add_apply, tallyAt_apply] at h
    by_cases hg : g = f a
    · exact ⟨a, Finset.mem_insert_self _ _, hg⟩
    · rw [if_neg (fun h' => hg h'.1), Nat.zero_add] at h
      obtain ⟨k, hk, e⟩ := ih h
      exact ⟨k, Finset.mem_insert_of_mem hk, e⟩

theorem owing_pos {c : Dev nD} {a b e : ℕ} {g : GSem nD τ sig} {u : Unit} (h : 0 < owing c a b e g u) :
    (∃ k ∈ stepsFrom a, g = barCell (peer k c)) ∨ (∃ k ∈ stepsFrom b, g = xCell (peer k c) 1 k)
      ∨ ∃ k ∈ stepsFrom e, g = xCell (peer k c) 3 k := by
  unfold owing at h
  rw [Pi.add_apply, Finsupp.add_apply, Pi.add_apply, Finsupp.add_apply] at h
  rcases Nat.eq_zero_or_pos ((∑ k ∈ stepsFrom a, tallyAt (barCell (peer k c)) () 1) g u) with h1 | h1
  · rcases Nat.eq_zero_or_pos ((∑ k ∈ stepsFrom b, tallyAt (xCell (peer k c) 1 k) () N) g u) with h2 | h2
    · rw [h1, h2, Nat.zero_add] at h
      obtain ⟨k, hk, e⟩ := sum_tally_pos h; exact .inr (.inr ⟨k, hk, e⟩)
    · obtain ⟨k, hk, e⟩ := sum_tally_pos h2; exact .inr (.inl ⟨k, hk, e⟩)
  · obtain ⟨k, hk, e⟩ := sum_tally_pos h1; exact .inl ⟨k, hk, e⟩

/-- A wait may block while everything owed lies above it. -/
theorem mayWait_of (c : Dev nD) (sm : SemLoc sig) (O : CellTallies nD τ sig Unit)
    (hL : ∀ g u, 0 < O g u → g.1.2 = .tc) (hO : ∀ g u, 0 < O g u → semLev sm < lv g u) :
    (levAts L lv : sProp 𝕄) ⊢ MayWait (c : Thread nD τ) sm () O :=
  MayOwe.of_cut (L := L) (lev := lv) (semLev sm) (fun p hp => by rw [Finset.mem_singleton.mp hp, L_tc]; exact Finset.mem_singleton_self _)
    (fun g u hg => by unfold L; rw [if_pos (hL g u hg)]; exact Finset.mem_singleton_self _)
    (fun p hp => by rw [Finset.mem_singleton.mp hp]; exact Nat.le_refl _) hO

theorem owing_tc (c : Dev nD) (a b e : ℕ) (g : GSem nD τ sig) (u : Unit) (h : 0 < owing c a b e g u) : g.1.2 = .tc := by
  rcases owing_pos h with ⟨k, -, rfl⟩ | ⟨k, -, rfl⟩ | ⟨k, -, rfl⟩ <;> rfl

/-- At level `0` one may wait whatever one owes. -/
theorem mayWait_low (c : Dev nD) (sm : SemLoc sig) (hs : semLev sm = 0) (a b e : ℕ) :
    (levAts L lv : sProp 𝕄) ⊢ MayWait (c : Thread nD τ) sm () (owing c a b e) :=
  mayWait_of c sm _ (owing_tc c a b e) fun g u h => by
    rw [hs]
    rcases owing_pos h with ⟨k, -, rfl⟩ | ⟨k, -, rfl⟩ | ⟨k, -, rfl⟩
    · exact Nat.one_pos
    · rw [lv_rs]; decide
    · rw [lv_ag]; decide
/-- One may wait at the barrier once every peer is signalled. -/
theorem mayWait_bar (c : Dev nD) (b e : ℕ) :
    (levAts L lv : sProp 𝕄) ⊢ MayWait (c : Thread nD τ) (.reg barS) () (owing c 7 b e) :=
  mayWait_of c _ _ (owing_tc c 7 b e) fun g u h => by
    rcases owing_pos h with ⟨k, hk, rfl⟩ | ⟨k, -, rfl⟩ | ⟨k, -, rfl⟩
    · rw [stepsFrom_end] at hk; exact absurd hk (Finset.notMem_empty _)
    · rw [lv_rs]; decide
    · rw [lv_ag]; decide
/-- One may wait for a block of the first exchange once its own copies of it are started. -/
theorem mayWait_rs (c : Dev nD) (k : Fin 7) (e : ℕ) :
    (levAts L lv : sProp 𝕄) ⊢ MayWait (c : Thread nD τ) (.dma (xs 1 k)) () (owing c 7 7 e) :=
  mayWait_of c _ _ (owing_tc c 7 7 e) fun g u h => by
    rcases owing_pos h with ⟨k, hk, rfl⟩ | ⟨k, hk, rfl⟩ | ⟨j, -, rfl⟩
    · rw [stepsFrom_end] at hk; exact absurd hk (Finset.notMem_empty _)
    · rw [stepsFrom_end] at hk; exact absurd hk (Finset.notMem_empty _)
    · rw [lv_ag, show semLev (.dma (xs 1 k)) = 2 from lv_rs c k]; decide

end Cert.Proof

end
-- ==== Proof.Steps.lean ====
/-
One lemma for each kind of step the kernel repeats around the ring, at the `k`-th peer: a signal, a copy of the first
exchange, a copy of the second, a wait for a transfer semaphore. Each takes what is left of its family of resources and
gives it back one step further on.
-/
module

public import proofs.«01_k».proof.Proof.Protocol

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ UU ℕ

abbrev 𝒱₀ : Variants := Variants.none

variable (X : Dev nD → Part F) (G : Res F) (κ : GSem nD τ sig → ℕ)

/-! ## What every device knows -/

/-- The invariants of every semaphore of the exchanges, that every barrier's round is reached, and the levels. -/
def known : sProp 𝕄 :=
  iprop((bigSep Finset.univ fun c : Dev nD => cellInv ER (sched X G) (κ (barCell c)) (barCell c))
    ∗ (bigSep Finset.univ fun x : Dev nD × Fin 4 × Fin 7 =>
        cellInv ER (sched X G) (κ (xCell x.1 x.2.1 x.2.2)) (xCell x.1 x.2.1 x.2.2))
    ∗ (bigSep Finset.univ fun c : Dev nD => reached ER (barCell c) 0)
    ∗ levAts L lv)

instance known_persistent : Persistent (known X G κ) := by unfold known; infer_instance

omit [FloatOps F] [Named F] in
theorem left_of {P Q R : sProp 𝕄} (h : P ⊢ R) : iprop(P ∗ Q) ⊢ R := by
  iintro ⟨H, -⟩; iapply h; iexact H
omit [FloatOps F] [Named F] in
theorem right_of {P Q R : sProp 𝕄} (h : Q ⊢ R) : iprop(P ∗ Q) ⊢ R := by
  iintro ⟨-, H⟩; iapply h; iexact H

omit [FloatOps F] [Named F] in
theorem known_bar (e : Dev nD) : known X G κ ⊢ cellInv ER (sched X G) (κ (barCell e)) (barCell e) :=
  left_of (bigSep_elim (Finset.mem_univ e))
omit [FloatOps F] [Named F] in
theorem known_x (e : Dev nD) (a : Fin 4) (k : Fin 7) :
    known X G κ ⊢ cellInv ER (sched X G) (κ (xCell e a k)) (xCell e a k) :=
  right_of (left_of (bigSep_elim (Finset.mem_univ ((e, a, k) : Dev nD × Fin 4 × Fin 7))))
omit [FloatOps F] [Named F] in
theorem known_reached (e : Dev nD) : known X G κ ⊢ reached ER (barCell e) 0 :=
  right_of (right_of (left_of (bigSep_elim (Finset.mem_univ e))))
omit [FloatOps F] [Named F] in
theorem known_levels : known X G κ ⊢ levAts L lv := right_of (right_of (right_of .rfl))

/-- What a device owes, whatever it has waited for. -/
def owed (c : Dev nD) (O : CellTallies nD τ sig Unit) : sProp 𝕄 := iprop(∃ W, owes (c : Thread nD τ) O W)

/-! ## The signals -/

/-- What the signal to the `k`-th peer uses up. -/
def sigNeed (c : Dev nD) (k : Fin 7) : sProp 𝕄 :=
  iprop(dutyTok ER (barCell (peer k c)) 0 k.rev ∗ barPay (peer k c) k.rev)

theorem step_signal (c n : Dev nD) (k : Fin 7) (i j : ℕ) (hn : n = peer k c) {k' : ℤ} (hk : k' = 1)
    (hi : k.val = i := by rfl) (hj : i + 1 = j := by rfl) {α : Type} {Q : α → sProp 𝕄} {K : PUnit → Prog (TpuEff nD τ sig (Elt F) Λ₀ .tc) α} :
    known X G κ ⊢ iprop(owed c (owing c i 0 0) -∗ ahead (sigNeed c) i
      -∗ ((owed c (owing c j 0 0) ∗ ahead (sigNeed c) j)
          -∗ wp frame (wpE (defs₀ (F := F)) 𝒱₀ (c : Thread nD τ) none) Set.univ (K ⟨⟩) Q)
      -∗ wp frame (wpE (defs₀ (F := F)) 𝒱₀ (c : Thread nD τ) none) Set.univ (.op (.semSignal (n : Thread nD τ) barS k') K) Q) := by
  subst hi hj
  subst hn hk
  rw [ahead_step (sigNeed c) k]
  unfold owed sigNeed
  iintro #HR ⟨%W, HO⟩ ⟨⟨Htok, Hpay⟩, Hrest⟩ Hk
  iapply (Rounds.wp_signal 𝒱₀ ER (sched X G) (c : Thread nD τ) none (dst := (peer k c : Thread nD τ)) (κ := κ (barCell (peer k c)))
      (d := k.rev) (by rw [show ((peer k c : Thread nD τ), SemLoc.reg barS) = barCell (peer k c) from rfl, duties_bar]; exact Finset.mem_univ _)
      (amount_bar X G (peer k c) k.rev) () (owing c (k.val + 1) 0 0) (owing_bar c k 0 0)) $$ [HO Htok Hpay]
  · isplitr; · iapply (known_bar X G κ); iexact HR
    isplitl [HO]; · iexact HO
    isplitl [Htok]; · iexact Htok
    isplitl [Hpay]; · rw [payload_bar]; iexact Hpay
    iapply (known_reached X G κ); iexact HR
  iintro HO
  iapply Hk
  isplitl [HO]; · iexists W; iexact HO
  iexact Hrest

/-! ## What a copy leaves at its destination -/

/-- An element of slot `k + 1`, by its place in the block. -/
theorem slotM_emb (k : Fin 7) (z : S32x512.Idx) :
    (slotM k).view.emb z = (Rect.unit (s := S8x32x512) ![1 + k.val, 0, 0] S1x32x512.size (slotk_inb k)).emb
      (Fin.cons ⟨0, Nat.one_pos⟩ z) := by
  show (Rect.unit (s := S8x32x512) ![1 + k.val, 0, 0] S1x32x512.size (slotk_inb k)).emb (Shape.reshapeEquiv _ z) = _
  rw [Shape.reshapeEquiv_cons_one (n := 2) (d := ![32, 512])]

omit [FloatOps F] [Named F] in
theorem landed_at (c : Dev nD) (k : Fin 7) (fd : Slots F) :
    ∀ i ∈ (slotM k).view.set, (slotM k).view.write (Elt F) fd ((rowM c k).view.read (Elt F) (X c)) Finset.univ i
      = landed X (peer k c) i := by
  intro i hi
  obtain ⟨z, -, rfl⟩ := Finset.mem_map.mp hi
  rw [View.write_emb_of_mem _ _ (Finset.mem_univ z), slotM_emb]
  have h0 : (Rect.unit (s := S8x32x512) ![1 + k.val, 0, 0] S1x32x512.size (slotk_inb k)).emb
      (Fin.cons ⟨0, Nat.one_pos⟩ z) (0 : Fin 3) = k.succ := Fin.ext (Nat.add_comm 1 k.val)
  unfold landed
  rw [h0, srcDev_peer]
  show X c _ = X c _
  congr 1
  funext a
  refine Fin.ext ?_
  show (k0_off1 c (BitVec.ofNat 32 (1 + k.val))) a + 1 * (z a).val = ![32 * (peer k c).val, 0] a + 1 * _
  rw [off1_eq]
  congr 2
  show (z a).val = (![0, 0] a + 1 * (z a).val)
  fin_cases a <;> simp

omit [FloatOps F] [Named F] in
/-- Writing what the same view reads leaves the contents read. -/
theorem write_read_at (v : View sig .tc .vmem S32x512 .f32) (fd f : v.ty.Contents (Elt F)) :
    ∀ i ∈ v.set, v.write (Elt F) fd (v.read (Elt F) f) Finset.univ i = f i := by
  intro i hi
  rw [View.write_read_eq_piecewise]
  exact Finset.piecewise_eq_of_mem _ _ _ hi

/-! ## The copies -/

/-- The token that pays for semaphore `k` of array `a` of device `c`, and that its round is open. -/
def right (c : Dev nD) (a : Fin 4) (k : Fin 7) : sProp 𝕄 := iprop(dutyTok ER (xCell c a k) 0 0 ∗ reached ER (xCell c a k) 0)

/-- What the first exchange's copy to the `k`-th peer uses up. -/
def rsNeed (c : Dev nD) (k : Fin 7) : sProp 𝕄 :=
  iprop(partPts X c (peer k c) ∗ (∃ f : Slots F, slotPts (peer k c) k f) ∗ right c 0 k ∗ right (peer k c) 1 k)
/-- What the second exchange's copy to the `k`-th peer uses up. -/
def agNeed (c : Dev nD) (k : Fin 7) : sProp 𝕄 :=
  iprop(outPts c c (lent k) G ∗ (∃ f : Res F, outPts (peer k c) c fullShare f) ∗ right c 2 k ∗ right (peer k c) 3 k)

theorem step_rs (c n : Dev nD) (k : Fin 7) (i j : ℕ) (hn : n = peer k c)
    {hsc : (slotM k : Memref sig (Dev.tc n : Thread nD τ).2.kind .vmem S32x512 .f32).view.ref.isScScratch = false}
    {hsrc : (rowM c k).view.WordExact} {hdst : (slotM k : Memref sig .tc .vmem S32x512 .f32).view.WordExact}
    {hsem : DmaTarget.Typed .vmem (.dma (xs 1 k)) (.remote (Dev.tc n : Thread nD τ) (slotM k : Memref sig .tc .vmem S32x512 .f32) (.dma (xs 0 k)) hsc)}
    (hi : k.val = i := by rfl) (hj : i + 1 = j := by rfl) {α : Type} {Q : α → sProp 𝕄} {K : PUnit → Prog (TpuEff nD τ sig (Elt F) Λ₀ .tc) α} :
    known X G κ ⊢ iprop(owed c (owing c 7 i 0) -∗ ahead (rsNeed X c) i -∗ behind (fun k => cred (tallyAt (xCell c 0 k) () N)) i
      -∗ ((owed c (owing c 7 j 0) ∗ ahead (rsNeed X c) j ∗ behind (fun k => cred (tallyAt (xCell c 0 k) () N)) j)
          -∗ wp frame (wpE (defs₀ (F := F)) 𝒱₀ (c : Thread nD τ) none) Set.univ (K ⟨⟩) Q)
      -∗ wp frame (wpE (defs₀ (F := F)) 𝒱₀ (c : Thread nD τ) none) Set.univ
          (.op (.enqueueDma (rowM c k) (.remote (Dev.tc n : Thread nD τ) (slotM k) (.dma (xs 0 k)) hsc) (.dma (xs 1 k)) hsrc hdst hsem) K) Q) := by
  subst hi hj
  subst hn
  rw [ahead_step (rsNeed X c) k, behind_step _ k]
  unfold owed rsNeed right partPts slotPts
  iintro #HR ⟨%W, HO⟩ ⟨⟨Hsrc, ⟨%fd, Hdst⟩, ⟨Ht0, #Hr0⟩, Ht1, #Hr1⟩, Hrest⟩ Hdone Hk
  rw [← rowM_set c k, ← slotM_set k]
  iapply (Rounds.wp_send_pointsTo 𝒱₀ ER (sched X G) (c : Thread nD τ) none (κ₁ := κ (xCell c 0 k)) (κ₂ := κ (xCell (peer k c) 1 k))
    (c' := (peer k c : Thread nD τ)) (src := rowM c k) (dst := slotM k) (sS := .dma (xs 0 k)) (sem := .dma (xs 1 k)) (q := fullShare) (fs := X c)
    (r₁ := 0) (r₂ := 0) (d₁ := 0) (d₂ := 0) (fd := fd)
    (by show _ ∈ (sched X G).duties (xCell c 0 k) 0; rw [duties_x]; exact Finset.mem_singleton_self _)
    (by show _ ∈ (sched X G).duties (xCell (peer k c) 1 k) 0; rw [duties_x]; exact Finset.mem_singleton_self _)
    () () N (N_slot k) (amount_x X G c 0 k 0) (amount_x X G (peer k c) 1 k 0) (owing c 7 (k.val + 1) 0) (owing_rs c k 7 0) (W := W)
    (by
      show _ ⊢ (sched X G).payload (xCell c 0 k) 0 0
      rw [payload_x]; show _ ⊢ partPts X c (peer k c); unfold partPts; rw [← rowM_set c k])
    (by
      show _ ⊢ (sched X G).payload (xCell (peer k c) 1 k) 0 0
      rw [payload_x]; show _ ⊢ slotPts (peer k c) k (landed X (peer k c)); unfold slotPts; rw [← slotM_set k]
      exact Entails.of_eq (pointsTo_congr (landed_at X c k fd)))) $$ [HO Hsrc Hdst Ht0 Ht1]
  · isplitr; · iapply (known_x X G κ c 0 k); iexact HR
    isplitr; · iapply (known_x X G κ (peer k c) 1 k); iexact HR
    isplitl [Hsrc]; · iexact Hsrc
    isplitl [Hdst]; · iexact Hdst
    isplitl [HO]; · iexact HO
    isplitl [Ht0]; · iexact Ht0
    isplitr; · iexact Hr0
    isplitl [Ht1]; · iexact Ht1
    iexact Hr1
  iintro ⟨Hc, HO⟩
  iapply Hk
  isplitl [HO]; · iexists W; iexact HO
  isplitl [Hrest]; · iexact Hrest
  isplitl [Hc]; · iexact Hc
  iexact Hdone

theorem step_ag (c n : Dev nD) (k : Fin 7) (i j : ℕ) (hn : n = peer k c)
    {hsc : (ownM c : Memref sig (Dev.tc n : Thread nD τ).2.kind .vmem S32x512 .f32).view.ref.isScScratch = false}
    {hsrc : (ownM c).view.WordExact} {hdst : (ownM c : Memref sig .tc .vmem S32x512 .f32).view.WordExact}
    {hsem : DmaTarget.Typed .vmem (.dma (xs 3 k)) (.remote (Dev.tc n : Thread nD τ) (ownM c : Memref sig .tc .vmem S32x512 .f32) (.dma (xs 2 k)) hsc)}
    (hi : k.val = i := by rfl) (hj : i + 1 = j := by rfl) {α : Type} {Q : α → sProp 𝕄} {K : PUnit → Prog (TpuEff nD τ sig (Elt F) Λ₀ .tc) α} :
    known X G κ ⊢ iprop(owed c (owing c 7 7 i) -∗ ahead (agNeed G c) i -∗ behind (fun k => cred (tallyAt (xCell c 2 k) () N)) i
      -∗ ((owed c (owing c 7 7 j) ∗ ahead (agNeed G c) j ∗ behind (fun k => cred (tallyAt (xCell c 2 k) () N)) j)
          -∗ wp frame (wpE (defs₀ (F := F)) 𝒱₀ (c : Thread nD τ) none) Set.univ (K ⟨⟩) Q)
      -∗ wp frame (wpE (defs₀ (F := F)) 𝒱₀ (c : Thread nD τ) none) Set.univ
          (.op (.enqueueDma (ownM c) (.remote (Dev.tc n : Thread nD τ) (ownM c) (.dma (xs 2 k)) hsc) (.dma (xs 3 k)) hsrc hdst hsem) K) Q) := by
  subst hi hj
  subst hn
  rw [ahead_step (agNeed G c) k, behind_step _ k]
  unfold owed agNeed right outPts
  iintro #HR ⟨%W, HO⟩ ⟨⟨Hsrc, ⟨%fd, Hdst⟩, ⟨Ht0, #Hr0⟩, Ht1, #Hr1⟩, Hrest⟩ Hdone Hk
  rw [← ownM_set c]
  iapply (Rounds.wp_send_pointsTo 𝒱₀ ER (sched X G) (c : Thread nD τ) none (κ₁ := κ (xCell c 2 k)) (κ₂ := κ (xCell (peer k c) 3 k))
    (c' := (peer k c : Thread nD τ)) (src := ownM c) (dst := ownM c) (sS := .dma (xs 2 k)) (sem := .dma (xs 3 k)) (q := lent k) (fs := G)
    (r₁ := 0) (r₂ := 0) (d₁ := 0) (d₂ := 0) (fd := fd)
    (by show _ ∈ (sched X G).duties (xCell c 2 k) 0; rw [duties_x]; exact Finset.mem_singleton_self _)
    (by show _ ∈ (sched X G).duties (xCell (peer k c) 3 k) 0; rw [duties_x]; exact Finset.mem_singleton_self _)
    () () N (N_own c) (amount_x X G c 2 k 0) (amount_x X G (peer k c) 3 k 0) (owing c 7 7 (k.val + 1)) (owing_ag c k 7 7) (W := W)
    (by
      show _ ⊢ (sched X G).payload (xCell c 2 k) 0 0
      rw [payload_x]; show _ ⊢ outPts c c (lent k) G; unfold outPts; rw [← ownM_set c])
    (by
      show _ ⊢ (sched X G).payload (xCell (peer k c) 3 k) 0 0
      rw [payload_x]; show _ ⊢ outPts (peer k c) (back k (peer k c)) fullShare G; unfold outPts; rw [back_peer, ← ownM_set c]
      exact Entails.of_eq (pointsTo_congr (write_read_at (ownM c).view fd G)))) $$ [HO Hsrc Hdst Ht0 Ht1]
  · isplitr; · iapply (known_x X G κ c 2 k); iexact HR
    isplitr; · iapply (known_x X G κ (peer k c) 3 k); iexact HR
    isplitl [Hsrc]; · iexact Hsrc
    isplitl [Hdst]; · iexact Hdst
    isplitl [HO]; · iexact HO
    isplitl [Ht0]; · iexact Ht0
    isplitr; · iexact Hr0
    isplitl [Ht1]; · iexact Ht1
    iexact Hr1
  iintro ⟨Hc, HO⟩
  iapply Hk
  isplitl [HO]; · iexists W; iexact HO
  isplitl [Hrest]; · iexact Hrest
  isplitl [Hc]; · iexact Hc
  iexact Hdone

/-! ## The waits -/

/-- What a wait for semaphore `k` of array `a` uses up, and what it gives. -/
def waitNeed (c : Dev nD) (a : Fin 4) (k : Fin 7) : sProp 𝕄 :=
  iprop(cred (tallyAt (xCell c a k) () N) ∗ atPos ER (xCell c a k) 0 ∅ 0)
def waitGot (c : Dev nD) (a : Fin 4) (k : Fin 7) : sProp 𝕄 :=
  iprop(atPos ER (xCell c a k) 1 ∅ 0 ∗ xPay X G c a.val k)

theorem step_wait (c : Dev nD) (a : Fin 4) (k : Fin 7) (i j : ℕ) (O : CellTallies nD τ sig Unit)
    (hO : (levAts L lv : sProp 𝕄) ⊢ MayWait (c : Thread nD τ) (.dma (xs a k)) () O)
    {sp sp' : Space} {s s' : Shape} {e e' : EltTy} {κ' : Kind}
    {src : Memref sig .tc sp' s' e'} {dst : Memref sig κ' sp s e} (hN : dst.view.dmaCredit = N)
    {hsrc : src.view.WordExact} {hdst : dst.view.WordExact}
    (hi : k.val = i := by rfl) (hj : i + 1 = j := by rfl) {α : Type} {Q : α → sProp 𝕄} {K : PUnit → Prog (TpuEff nD τ sig (Elt F) Λ₀ .tc) α} :
    known X G κ ⊢ iprop(owed c O -∗ ahead (waitNeed c a) i -∗ behind (waitGot X G c a) i
      -∗ ((owed c O ∗ ahead (waitNeed c a) j ∗ behind (waitGot X G c a) j)
          -∗ wp frame (wpE (defs₀ (F := F)) 𝒱₀ (c : Thread nD τ) none) Set.univ (K ⟨⟩) Q)
      -∗ wp frame (wpE (defs₀ (F := F)) 𝒱₀ (c : Thread nD τ) none) Set.univ
          (.op (.waitDma2 (xs a k) src dst hsrc hdst) K) Q) := by
  subst hi hj
  rw [ahead_step (waitNeed c a) k, behind_step _ k]
  unfold owed waitNeed
  iintro #HR ⟨%W, HO⟩ ⟨⟨Hc, Hat⟩, Hrest⟩ Hdone Hk
  iapply (Rounds.wp_wait_rest_token 𝒱₀ ER (sched X G) (c : Thread nD τ) none (κ := κ (xCell c a k))
      (wpE_waitDma2_eq 𝒱₀ (c : Thread nD τ) none Set.univ) (Set.mem_univ _) () (O := O) (W := W) (R := 0) (m := 0) (T := ∅)
      (by rw [Nat.zero_add, hN]; exact (expect_x X G c a k).symm)) $$ [Hc HO Hat]
  · isplitr; · iapply (known_x X G κ c a k); iexact HR
    isplitl [Hc]; · rw [hN]; iexact Hc
    isplitl [HO]; · iexact HO
    isplitr; · iapply hO; iapply (known_levels X G κ); iexact HR
    iexact Hat
  iintro ⟨HO, Hat, -, Hpay⟩
  ihave Hp := (Entails.of_eq (rest_x X G c a k)) $$ Hpay
  iapply Hk
  isplitl [HO]; · iexists _; iexact HO
  isplitl [Hrest]; · iexact Hrest
  isplitl [Hat Hp]
  · unfold waitGot
    isplitl [Hat]; · iexact Hat
    iexact Hp
  iexact Hdone

end Cert.Proof

end
-- ==== Proof.Split.lean ====
/-
Cutting a device's three buffers into the blocks the exchanges move: the partial product and the result into the rows of
each device, the receive buffer into its slots, and the device's own rows of the result into the shares it lends.
-/
module

public import proofs.«01_k».proof.Proof.Protocol

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type}

local notation "𝕄" => MT nD τ sig Unit (Elt F) ℕ UU ℕ

theorem bigSep_succ {M : Type} [URA M] {n : ℕ} (Φ : Fin (n + 1) → sProp M) :
    bigSep Finset.univ Φ = iprop(Φ 0 ∗ bigSep Finset.univ fun k : Fin n => Φ k.succ) := by
  rw [Fin.univ_succ, Finset.cons_eq_insert, BI.bigSep_insert (by simp [Fin.succ_ne_zero]), BI.bigSep_map]; rfl

/-! ## The partial product, by rows -/

theorem rows_disjoint (e e' : Dev nD) (h : e ≠ e') : Disjoint (rowR e).set (rowR e').set :=
  lead_disjoint (s := S256x512) (0 : Fin 2) 32 (fun e : Fin 8 => ![32 * e.val, 0]) S32x512.size row_inb (fun _ => rfl) rfl e e' h
theorem rows_cover : Finset.univ.biUnion (fun e : Dev nD => (rowR e).set) = Finset.univ :=
  lead_cover (s := S256x512) (0 : Fin 2) 32 (fun e : Fin 8 => ![32 * e.val, 0]) S32x512.size row_inb (fun _ => rfl)
    (fun b a h => by fin_cases a; exact absurd rfl h; rfl) rfl (fun a h => by fin_cases a; exact absurd rfl h; rfl) rfl

theorem part_split (X : Dev nD → Part F) (c : Dev nD) :
    (((c : Thread nD τ).loc cc0_scratch0) ↦{fullShare} X c : sProp 𝕄)
      = iprop(partPts X c c ∗ bigSep Finset.univ fun k => partPts X c (peer k c)) := by
  rw [pointsTo_blocks (ℓ := (c : Thread nD τ).loc cc0_scratch0) (fun e : Dev nD => (rowR e).set) rows_disjoint rows_cover (X c)]
  exact bigSep_around c fun e => partPts X c e

/-! ## The receive buffer, by slots -/

theorem slots_disjoint (e e' : Fin 8) (h : e ≠ e') : Disjoint (slotR e).set (slotR e').set :=
  lead_disjoint (s := S8x32x512) (0 : Fin 3) 1 (fun e : Fin 8 => ![e.val, 0, 0]) S1x32x512.size slot_inb (fun b => (Nat.one_mul b.val).symm) rfl e e' h
theorem slots_cover : Finset.univ.biUnion (fun e : Fin 8 => (slotR e).set) = Finset.univ :=
  lead_cover (s := S8x32x512) (0 : Fin 3) 1 (fun e : Fin 8 => ![e.val, 0, 0]) S1x32x512.size slot_inb (fun b => (Nat.one_mul b.val).symm)
    (fun b a h => by fin_cases a; exact absurd rfl h; rfl; rfl) rfl (fun a h => by fin_cases a; exact absurd rfl h; rfl; rfl) rfl

/-- Slot `0`, which no copy uses. -/
def spare (c : Dev nD) (f : Slots F) : sProp 𝕄 := ((c : Thread nD τ).loc cc0_scratch1) ↦[(slotR 0).set]{fullShare} f

theorem slots_split (c : Dev nD) (f : Slots F) :
    (((c : Thread nD τ).loc cc0_scratch1) ↦{fullShare} f : sProp 𝕄)
      = iprop(spare c f ∗ bigSep Finset.univ fun k => slotPts c k f) := by
  rw [pointsTo_blocks (ℓ := (c : Thread nD τ).loc cc0_scratch1) (fun e : Fin 8 => (slotR e).set) slots_disjoint slots_cover f]
  exact bigSep_succ fun e : Fin 8 => (((c : Thread nD τ).loc cc0_scratch1) ↦[(slotR e).set]{fullShare} f : sProp 𝕄)

theorem slots_join (c : Dev nD) (f g : Slots F) :
    iprop(spare c f ∗ bigSep Finset.univ fun k => slotPts c k g)
      ⊢ (iprop(∃ h : Slots F, ((c : Thread nD τ).loc cc0_scratch1) ↦{fullShare} h) : sProp 𝕄) := by
  have h := pointsTo_blocks_join (Ix := Unit) (Name := ℕ) (U := UU) (Lvl := ℕ) (ℓ := (c : Thread nD τ).loc cc0_scratch1) (fun e : Fin 8 => (slotR e).set) slots_disjoint slots_cover
    (q := fullShare) (Fin.cons f fun _ => g) f
  rw [bigSep_succ] at h
  exact h

/-! ## The result, by rows -/

/-- The device that makes an element of the result. -/
def outDev (i : S2x128x512.Idx) : Dev nD :=
  ⟨4 * (i (0 : Fin 3)).val + (i (1 : Fin 3)).val / 32, by
    have h0 : (i (0 : Fin 3)).val < 2 := (i (0 : Fin 3)).isLt
    have h1 : (i (1 : Fin 3)).val < 128 := (i (1 : Fin 3)).isLt
    show _ < 8; omega⟩

theorem mem_outR (e : Dev nD) (i : S2x128x512.Idx) : i ∈ (outR e).set ↔ outDev i = e := by
  have h0 : (i (0 : Fin 3)).val < 2 := (i (0 : Fin 3)).isLt
  have h1 : (i (1 : Fin 3)).val < 128 := (i (1 : Fin 3)).isLt
  have h2 : (i (2 : Fin 3)).val < 512 := (i (2 : Fin 3)).isLt
  have he : e.val < 8 := e.isLt
  rw [Rect.mem_set_unit]
  constructor
  · intro h
    have a0 : e.val / 4 ≤ (i (0 : Fin 3)).val ∧ (i (0 : Fin 3)).val < e.val / 4 + 1 := h (0 : Fin 3)
    have a1 : 32 * (e.val % 4) ≤ (i (1 : Fin 3)).val ∧ (i (1 : Fin 3)).val < 32 * (e.val % 4) + 32 := h (1 : Fin 3)
    refine Fin.ext ?_
    show 4 * (i (0 : Fin 3)).val + (i (1 : Fin 3)).val / 32 = e.val
    omega
  · intro h
    have hv : 4 * (i (0 : Fin 3)).val + (i (1 : Fin 3)).val / 32 = e.val := congrArg Fin.val h
    intro a
    match a with
    | ⟨0, _⟩ => show e.val / 4 ≤ (i (0 : Fin 3)).val ∧ (i (0 : Fin 3)).val < e.val / 4 + 1; omega
    | ⟨1, _⟩ => show 32 * (e.val % 4) ≤ (i (1 : Fin 3)).val ∧ (i (1 : Fin 3)).val < 32 * (e.val % 4) + 32; omega
    | ⟨2, _⟩ => show 0 ≤ (i (2 : Fin 3)).val ∧ (i (2 : Fin 3)).val < 0 + 512; omega

theorem outs_disjoint (e e' : Dev nD) (h : e ≠ e') : Disjoint (outR e).set (outR e').set := by
  rw [Finset.disjoint_left]
  intro i hi hi'
  exact h (((mem_outR e i).mp hi).symm.trans ((mem_outR e' i).mp hi'))
theorem outs_cover : Finset.univ.biUnion (fun e : Dev nD => (outR e).set) = Finset.univ := by
  ext i
  simp only [Finset.mem_biUnion, Finset.mem_univ, true_and, iff_true]
  exact ⟨outDev i, (mem_outR _ i).mpr rfl⟩

theorem out_split (c : Dev nD) (f : Res F) :
    (((c : Thread nD τ).loc cc0_stg5_0) ↦{fullShare} f : sProp 𝕄)
      = bigSep Finset.univ fun e => outPts c e fullShare f :=
  pointsTo_blocks (ℓ := (c : Thread nD τ).loc cc0_stg5_0) (fun e : Dev nD => (outR e).set) outs_disjoint outs_cover f

/-- A device's own rows of the result: the share it keeps and the shares it lends. -/
theorem own_split (c : Dev nD) (f : Res F) :
    (outPts c c fullShare f : sProp 𝕄)
      = iprop(outPts c c (ShareLeaves.leaf 3 fullShare (0 : Fin 8)) f ∗ bigSep Finset.univ fun k => outPts c c (lent k) f) := by
  unfold outPts
  rw [ShareLeaves.pointsTo_leaves (ℓ := (c : Thread nD τ).loc cc0_stg5_0) _ f 3 fullShare]
  exact bigSep_succ (n := 7) fun e => (((c : Thread nD τ).loc cc0_stg5_0) ↦[(outR c).set]{ShareLeaves.leaf 3 fullShare e} f : sProp 𝕄)

end Cert.Proof

end
-- ==== Proof.Values.lean ====
/-
The values of the kernel's run: a device's partial product, the rows it adds up, and the result; and what its loads and
stores read and leave.
-/
module

public import proofs.«01_k».proof.Proof.Steps
public import proofs.«01_k».proof.Proof.Split

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F] [Named F]

local notation "𝕄" => MT nD τ sig Unit (Elt F) ℕ UU ℕ

/-- A device's partial product from its five inputs: attention over its own heads, and their rows of the output weights. -/
def partOf (x : Vec F S2x128x512 .f32) (wq : Vec F S512x256 .f32) (kk vv : Vec F S2x128x4x64 .f32) (wo : Vec F S256x512 .f32) : Part F :=
  k0_pay15 (k0_pay1 x wq) (k0_pay4 k0_pay2 k0_pay3) (k0_pay5 kk) (k0_pay6 vv)
    (k0_pay10 (k0_pay4 k0_pay2 k0_pay3) (k0_pay7 vv) (k0_pay8 (k0_pay1 x wq) kk) k0_pay9)
    (k0_pay11 (k0_pay1 x wq) (k0_pay4 k0_pay2 k0_pay3) (k0_pay5 kk) (k0_pay6 vv))
    (k0_pay12 (k0_pay6 vv))
    (k0_pay13 (k0_pay1 x wq) (k0_pay4 k0_pay2 k0_pay3) (k0_pay5 kk))
    (k0_pay14 (k0_pay1 x wq) (k0_pay4 k0_pay2 k0_pay3) (k0_pay5 kk)) wo

variable (X : Dev nD → Part F)

/-- Device `c`'s own rows of its partial product. -/
def ownRows (c : Dev nD) : Vec F S32x512 .f32 := parM.view.readAt (Elt F) (rowR c).toLoadRect (X c)
/-- What slot `k + 1` of device `c` holds when its block has landed. -/
def slotVal (c : Dev nD) (k : Fin 7) : Vec F S1x32x512 .f32 := bufM.view.readAt (Elt F) (slotR k.succ).toLoadRect (landed X c)

/-- Device `c`'s rows of the result: its own rows and the seven landed blocks, added up in the order of the slots. -/
def acc (c : Dev nD) : FVec F S1x32x512 .f32 :=
  k0_pay18 (k0_pay17 (k0_pay16 (ownRows X c) (slotVal X c 0) (slotVal X c 1) (slotVal X c 2)) (slotVal X c 3) (slotVal X c 4))
    (slotVal X c 5) (slotVal X c 6)

/-- An element's place among its device's rows of the result. -/
def outLoc (i : S2x128x512.Idx) : S1x32x512.Idx := fun a => match a with
  | ⟨0, _⟩ => ⟨0, Nat.one_pos⟩
  | ⟨1, _⟩ => ⟨(i (1 : Fin 3)).val % 32, Nat.mod_lt _ (by decide)⟩
  | ⟨2, _⟩ => i (2 : Fin 3)

/-- The result. -/
def result : Res F := fun i => acc X (outDev i) (outLoc i)

theorem zero2 : (![0, 0] : Fin 2 → Nat) = fun _ => 0 := funext fun a => by fin_cases a <;> rfl
theorem zero3 : (![0, 0, 0] : Fin 3 → Nat) = fun _ => 0 := funext fun a => by fin_cases a <;> rfl
theorem zero4 : (![0, 0, 0, 0] : Fin 4 → Nat) = fun _ => 0 := funext fun a => by fin_cases a <;> rfl

omit [FloatOps F] [Named F] in
theorem load_x (inb : ∀ a, ![0, 0, 0] a + S2x128x512.size a ≤ S2x128x512.size a) (f : Vec F S2x128x512 .f32) :
    (Memref.whole cc0_stg0_0 : Memref sig .tc .vmem S2x128x512 .f32).view.readAt (Elt F) (Rect.unit (s := S2x128x512) ![0, 0, 0] S2x128x512.size inb).toLoadRect f = f :=
  Memref.readAt_unit_zero (Elt F) cc0_stg0_0 zero3 _ f
omit [FloatOps F] [Named F] in
theorem load_wq (inb : ∀ a, ![0, 0] a + S512x256.size a ≤ S512x256.size a) (f : Vec F S512x256 .f32) :
    (Memref.whole cc0_stg1_0 : Memref sig .tc .vmem S512x256 .f32).view.readAt (Elt F) (Rect.unit (s := S512x256) ![0, 0] S512x256.size inb).toLoadRect f = f :=
  Memref.readAt_unit_zero (Elt F) cc0_stg1_0 zero2 _ f
omit [FloatOps F] [Named F] in
theorem load_kk (inb : ∀ a, ![0, 0, 0, 0] a + S2x128x4x64.size a ≤ S2x128x4x64.size a) (f : Vec F S2x128x4x64 .f32) :
    (Memref.whole cc0_stg2_0 : Memref sig .tc .vmem S2x128x4x64 .f32).view.readAt (Elt F) (Rect.unit (s := S2x128x4x64) ![0, 0, 0, 0] S2x128x4x64.size inb).toLoadRect f = f :=
  Memref.readAt_unit_zero (Elt F) cc0_stg2_0 zero4 _ f
omit [FloatOps F] [Named F] in
theorem load_vv (inb : ∀ a, ![0, 0, 0, 0] a + S2x128x4x64.size a ≤ S2x128x4x64.size a) (f : Vec F S2x128x4x64 .f32) :
    (Memref.whole cc0_stg3_0 : Memref sig .tc .vmem S2x128x4x64 .f32).view.readAt (Elt F) (Rect.unit (s := S2x128x4x64) ![0, 0, 0, 0] S2x128x4x64.size inb).toLoadRect f = f :=
  Memref.readAt_unit_zero (Elt F) cc0_stg3_0 zero4 _ f
omit [FloatOps F] [Named F] in
theorem load_wo (inb : ∀ a, ![0, 0] a + S256x512.size a ≤ S256x512.size a) (f : Vec F S256x512 .f32) :
    (Memref.whole cc0_stg4_0 : Memref sig .tc .vmem S256x512 .f32).view.readAt (Elt F) (Rect.unit (s := S256x512) ![0, 0] S256x512.size inb).toLoadRect f = f :=
  Memref.readAt_unit_zero (Elt F) cc0_stg4_0 zero2 _ f
omit [FloatOps F] [Named F] in
theorem store_part (inb : ∀ a, ![0, 0] a + S256x512.size a ≤ S256x512.size a) (f w : Part F) :
    (parM.access (Rect.unit (s := S256x512) ![0, 0] S256x512.size inb)).write (Elt F) f w Finset.univ = w :=
  Memref.write_access_unit_zero_univ (Elt F) cc0_scratch0 zero2 _ f w

omit [FloatOps F] [Named F] in
theorem read_rows (c : Dev nD) (f : Part F) :
    parM.view.readAt (Elt F) (Rect.unit (s := S256x512) (k0_off2 c) S32x512.size (k0_off2_inb c)).toLoadRect f
      = parM.view.readAt (Elt F) (rowR c).toLoadRect f := by
  have key : ∀ (off : Fin 2 → Nat) (h : off = ![32 * c.val, 0]) (inb : ∀ a, off a + S32x512.size a ≤ S256x512.size a),
      parM.view.readAt (Elt F) (Rect.unit (s := S256x512) off S32x512.size inb).toLoadRect f
        = parM.view.readAt (Elt F) (rowR c).toLoadRect f := fun off h inb => by subst h; rfl
  exact key _ (k0_off2_eq c) _

theorem rows_sub (c : Dev nD) :
    parM.view.setOn (Rect.unit (s := S256x512) (k0_off2 c) S32x512.size (k0_off2_inb c)).toLoadRect.set ⊆ (rowR c).set := by
  have h : Rect.unit (s := S256x512) (k0_off2 c) S32x512.size (k0_off2_inb c) = rowR c := unit_congr _ _ (k0_off2_eq c)
  rw [h]
  intro i hi
  obtain ⟨z, hz, rfl⟩ := Finset.mem_map.mp hi
  exact hz
theorem slot_sub (k : Fin 7) : bufM.view.setOn (slotR k.succ).toLoadRect.set ⊆ (slotR k.succ).set := by
  intro i hi
  obtain ⟨z, hz, rfl⟩ := Finset.mem_map.mp hi
  exact hz
theorem out_load_sub (c : Dev nD) :
    outM.view.setOn (Rect.unit (s := S2x128x512) (k0_off3 c) S1x32x512.size (k0_off3_inb c)).toLoadRect.set ⊆ (outR c).set := by
  have h : Rect.unit (s := S2x128x512) (k0_off3 c) S1x32x512.size (k0_off3_inb c) = outR c := unit_congr _ _ (k0_off3_eq c)
  rw [h]
  intro i hi
  obtain ⟨z, hz, rfl⟩ := Finset.mem_map.mp hi
  exact hz

theorem out_store_sub (c : Dev nD) :
    (outM.access (Rect.unit (s := S2x128x512) (k0_off3 c) S1x32x512.size (k0_off3_inb c))).setOn Finset.univ ⊆ (outR c).set := by
  have h : Rect.unit (s := S2x128x512) (k0_off3 c) S1x32x512.size (k0_off3_inb c) = outR c := unit_congr _ _ (k0_off3_eq c)
  rw [h, View.setOn_univ]
  exact (View.set_slice_whole _ _).subset

/-- An element of device `c`'s rows, by its place. -/
theorem outR_emb (c : Dev nD) (z : S1x32x512.Idx) : outDev ((outR c).emb z) = c ∧ outLoc ((outR c).emb z) = z := by
  have hc : c.val < 8 := c.isLt
  have z0 : (z (0 : Fin 3)).val < 1 := (z (0 : Fin 3)).isLt
  have z1 : (z (1 : Fin 3)).val < 32 := (z (1 : Fin 3)).isLt
  have e0 : ((outR c).emb z (0 : Fin 3)).val = c.val / 4 + 1 * (z (0 : Fin 3)).val := rfl
  have e1 : ((outR c).emb z (1 : Fin 3)).val = 32 * (c.val % 4) + 1 * (z (1 : Fin 3)).val := rfl
  have e2 : ((outR c).emb z (2 : Fin 3)).val = 0 + 1 * (z (2 : Fin 3)).val := rfl
  constructor
  · refine Fin.ext ?_
    show 4 * ((outR c).emb z (0 : Fin 3)).val + ((outR c).emb z (1 : Fin 3)).val / 32 = c.val
    rw [e0, e1]; omega
  · funext a
    refine Fin.ext ?_
    match a with
    | ⟨0, _⟩ => show 0 = (z (0 : Fin 3)).val; omega
    | ⟨1, _⟩ => show ((outR c).emb z (1 : Fin 3)).val % 32 = (z (1 : Fin 3)).val; rw [e1]; omega
    | ⟨2, _⟩ => show ((outR c).emb z (2 : Fin 3)).val = (z (2 : Fin 3)).val; rw [e2]; omega

/-- Storing a device's rows leaves the result on them. -/
theorem write_acc (c : Dev nD) (f : Res F) :
    ∀ i ∈ (outR c).set, (outM.access (Rect.unit (s := S2x128x512) (k0_off3 c) S1x32x512.size (k0_off3_inb c))).write (Elt F) f (acc X c) Finset.univ i
      = result X i := by
  have key : ∀ (off : Fin 3 → Nat) (h : off = ![c.val / 4, 32 * (c.val % 4), 0]) (inb : ∀ a, off a + S1x32x512.size a ≤ S2x128x512.size a),
      ∀ i ∈ (outR c).set, (outM.access (Rect.unit (s := S2x128x512) off S1x32x512.size inb)).write (Elt F) f (acc X c) Finset.univ i
        = result X i := by
    intro off h inb
    subst h
    intro i hi
    rw [← View.set_slice_whole cc0_stg5_0 (outR c)] at hi
    obtain ⟨z, -, rfl⟩ := Finset.mem_map.mp hi
    refine (View.write_emb_of_mem (v := outM.access (outR c)) _ _ (Finset.mem_univ z)).trans ?_
    show acc X c z = acc X (outDev ((outR c).emb z)) (outLoc ((outR c).emb z))
    rw [(outR_emb c z).1, (outR_emb c z).2]
  exact key _ (k0_off3_eq c) _

end Cert.Proof

end
-- ==== Proof.Families.lean ====
/-
The kernel's body on one device: the signals and the barrier, the partial product, the first exchange and its sums, the
second exchange, and the waits for its own copies.
-/
module

public import proofs.«01_k».proof.Proof.Values

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F] [Named F]

local notation "𝕄" => MT nD τ sig Unit (Elt F) ℕ UU ℕ

theorem each {M : Type} [URA M] {Φ Ψ : Fin 7 → sProp M} (h : ∀ k, BIBase.Entails (Φ k) (Ψ k)) :
    BIBase.Entails (bigSep Finset.univ Φ) (bigSep Finset.univ Ψ) := bigSep_mono fun k _ => h k

/-! ## The families a device starts from -/

/-- The tokens for the signals to its peers and for the transfers it starts, and its own places and credits. -/
def start (c : Dev nD) : sProp 𝕄 :=
  iprop((bigSep Finset.univ fun k => dutyTok ER (barCell (peer k c)) 0 k.rev)
    ∗ (bigSep Finset.univ fun k => dutyTok ER (xCell c 0 k) 0 0)
    ∗ (bigSep Finset.univ fun k => dutyTok ER (xCell (peer k c) 1 k) 0 0)
    ∗ (bigSep Finset.univ fun k => dutyTok ER (xCell c 2 k) 0 0)
    ∗ (bigSep Finset.univ fun k => dutyTok ER (xCell (peer k c) 3 k) 0 0)
    ∗ atPos ER (barCell c) 0 ∅ 0
    ∗ cred (tallyAt (barCell c) () 7)
    ∗ (bigSep Finset.univ fun k => cred (tallyAt (xCell c 1 k) () N))
    ∗ (bigSep Finset.univ fun k => cred (tallyAt (xCell c 3 k) () N)))

/-- Its transfer semaphores, opened: their places, and that their rounds are reached. -/
def places (c : Dev nD) (a : Fin 4) : sProp 𝕄 := bigSep Finset.univ fun k => atPos ER (xCell c a k) 0 ∅ 0
def opened (c : Dev nD) (a : Fin 4) : sProp 𝕄 := bigSep Finset.univ fun k => reached ER (xCell c a k) 0
instance opened_persistent (c : Dev nD) (a : Fin 4) : Persistent (opened (F := F) c a) := by unfold opened; infer_instance

omit [FloatOps F] [Named F] in
theorem sig_family (c : Dev nD) (f : Slots F) (g : Res F) :
    iprop((bigSep Finset.univ fun k => dutyTok ER (barCell (peer k c)) 0 k.rev) ∗ (bigSep Finset.univ fun k => slotPts c k f)
        ∗ (bigSep Finset.univ fun k => outPts c (peer k c) fullShare g) ∗ opened c 1 ∗ opened c 3)
      ⊢ bigSep Finset.univ (sigNeed (F := F) c) := by
  unfold opened
  rw [BI.bigSep_univ_equiv (Fin.revPerm (n := 7)) fun k => slotPts c k f,
    BI.bigSep_univ_equiv (Fin.revPerm (n := 7)) fun k => reached ER (xCell c 1 k) 0,
    BI.bigSep_univ_equiv (Fin.revPerm (n := 7)) fun k => reached ER (xCell c 3 k) 0,
    ← bigSep_sep', ← bigSep_sep', ← bigSep_sep', ← bigSep_sep']
  refine each fun k => ?_
  unfold sigNeed barPay
  rw [peer_rev]
  simp only [Fin.revPerm_apply]
  iintro ⟨Ht, Hs, Ho, Hr1, Hr3⟩
  isplitl [Ht]; · iexact Ht
  isplitl [Hs]; · iexists f; iexact Hs
  isplitl [Ho]; · iexists g; iexact Ho
  isplitl [Hr1]; · iexact Hr1
  iexact Hr3

/-- What the barrier's round hands device `c`, by kind. -/
def peersSlots (c : Dev nD) : sProp 𝕄 := bigSep Finset.univ fun k => iprop(∃ f : Slots F, slotPts (peer k c) k f)
def peersRows (c : Dev nD) : sProp 𝕄 := bigSep Finset.univ fun k => iprop(∃ f : Res F, outPts (peer k c) c fullShare f)

omit [FloatOps F] [Named F] in
theorem bar_family (c : Dev nD) :
    (bigSep Finset.univ fun j => barPay (F := F) c j)
      = iprop(peersSlots c ∗ peersRows c ∗ (bigSep Finset.univ fun k => reached ER (xCell (peer k c) 1 k) 0)
        ∗ bigSep Finset.univ fun k => reached ER (xCell (peer k c) 3 k) 0) := by
  unfold peersSlots peersRows; rw [← bigSep_sep', ← bigSep_sep', ← bigSep_sep']; rfl

omit [FloatOps F] [Named F] in
theorem rs_family (X : Dev nD → Part F) (c : Dev nD) :
    iprop((bigSep Finset.univ fun k => partPts X c (peer k c)) ∗ peersSlots c
        ∗ (bigSep Finset.univ fun k => dutyTok ER (xCell c 0 k) 0 0) ∗ opened c 0
        ∗ (bigSep Finset.univ fun k => dutyTok ER (xCell (peer k c) 1 k) 0 0)
        ∗ bigSep Finset.univ fun k => reached ER (xCell (peer k c) 1 k) 0)
      ⊢ bigSep Finset.univ (rsNeed X c) := by
  unfold opened peersSlots
  rw [← bigSep_sep', ← bigSep_sep', ← bigSep_sep', ← bigSep_sep', ← bigSep_sep']
  refine each fun k => ?_
  unfold rsNeed right
  iintro ⟨Hp, Hs, Ht0, Hr0, Ht1, Hr1⟩
  isplitl [Hp]; · iexact Hp
  isplitl [Hs]; · iexact Hs
  isplitl [Ht0 Hr0]; · isplitl [Ht0] <;> iassumption
  isplitl [Ht1] <;> iassumption

omit [FloatOps F] [Named F] in
theorem ag_family (G : Res F) (c : Dev nD) :
    iprop((bigSep Finset.univ fun k => outPts c c (lent k) G) ∗ peersRows c
        ∗ (bigSep Finset.univ fun k => dutyTok ER (xCell c 2 k) 0 0) ∗ opened c 2
        ∗ (bigSep Finset.univ fun k => dutyTok ER (xCell (peer k c) 3 k) 0 0)
        ∗ bigSep Finset.univ fun k => reached ER (xCell (peer k c) 3 k) 0)
      ⊢ bigSep Finset.univ (agNeed G c) := by
  unfold opened peersRows
  rw [← bigSep_sep', ← bigSep_sep', ← bigSep_sep', ← bigSep_sep', ← bigSep_sep']
  refine each fun k => ?_
  unfold agNeed right
  iintro ⟨Hp, Hs, Ht0, Hr0, Ht1, Hr1⟩
  isplitl [Hp]; · iexact Hp
  isplitl [Hs]; · iexact Hs
  isplitl [Ht0 Hr0]; · isplitl [Ht0] <;> iassumption
  isplitl [Ht1] <;> iassumption

omit [FloatOps F] [Named F] in
theorem wait_family (c : Dev nD) (a : Fin 4) :
    iprop((bigSep Finset.univ fun k => cred (tallyAt (xCell c a k) () N)) ∗ places c a)
      ⊢ bigSep Finset.univ (waitNeed (F := F) c a) := by
  unfold places; rw [← bigSep_sep']; exact .rfl

omit [FloatOps F] [Named F] in
theorem got_family (X : Dev nD → Part F) (G : Res F) (c : Dev nD) (a : Fin 4) :
    bigSep Finset.univ (waitGot X G c a)
      ⊢ iprop((bigSep Finset.univ fun k => atPos ER (xCell c a k) 1 ∅ 0) ∗ bigSep Finset.univ fun k => xPay X G c a.val k) := by
  rw [← bigSep_sep']; exact .rfl

omit [FloatOps F] [Named F] in
/-- A transfer array whose rounds are over gives its counters back at zero. -/
theorem close_family (X : Dev nD → Part F) (G : Res F) (κ : GSem nD τ sig → ℕ) (c : Dev nD) (a : Fin 4) :
    iprop(known X G κ ∗ bigSep Finset.univ fun k => atPos ER (xCell c a k) 1 ∅ 0)
      ⊢ iprop(|={Set.univ}=> bigSep Finset.univ fun k => semVal (xCell c a k) 0) := by
  refine (bigSep_with_persistent (Ψ := fun k => iprop(|={Set.univ}=> semVal (xCell c a k) 0)) fun k _ => ?_).trans (bigSep_fupd _ _)
  iintro ⟨#HR, Hat⟩
  iapply (Rounds.cell_close ER (sched X G) (κ := κ (xCell c a k)) (Set.mem_univ _) (fun h => h) (R := 0 + 1) (duties_later X G _))
  isplitr; · iapply (known_x X G κ c a k); iexact HR
  iexact Hat

/-- The wait for the `k`-th block of the first exchange, and the load of its slot. -/
theorem step_recv (X : Dev nD → Part F) (G : Res F) (κ : GSem nD τ sig → ℕ) (c : Dev nD) (k : Fin 7) (i j : ℕ)
    {sp sp' : Space} {s s' : Shape} {e e' : EltTy} {κ' : Kind}
    {src : Memref sig .tc sp' s' e'} {dst : Memref sig κ' sp s e} (hN : dst.view.dmaCredit = N)
    {hsrc : src.view.WordExact} {hdst : dst.view.WordExact} {hl : bufM.view.LoadsAt (slotR k.succ).toLoadRect}
    (hi : k.val = i := by rfl) (hj : i + 1 = j := by rfl) {α : Type} {Q : α → sProp 𝕄}
    {K : Vec F S1x32x512 .f32 → Prog (TpuEff nD τ sig (Elt F) Λ₀ .tc) α} :
    known X G κ ⊢ iprop(owed c (owing c 7 7 0) -∗ ahead (waitNeed c 1) i -∗ behind (waitGot X G c 1) i
      -∗ ((owed c (owing c 7 7 0) ∗ ahead (waitNeed c 1) j ∗ behind (waitGot X G c 1) j)
          -∗ wp frame (wpE (defs₀ (F := F)) 𝒱₀ (c : Thread nD τ) none) Set.univ (K (slotVal X c k)) Q)
      -∗ wp frame (wpE (defs₀ (F := F)) 𝒱₀ (c : Thread nD τ) none) Set.univ
          (.op (.waitDma2 (xs 1 k) src dst hsrc hdst) fun _ => .op (.load bufM (slotR k.succ).toLoadRect hl) K) Q) := by
  subst hi hj
  iintro #HR HO HA HB Hk
  iapply (step_wait X G κ c 1 k k.val (k.val + 1) (owing c 7 7 0) (mayWait_rs c k 0) hN) $$ HR HO HA HB
  iintro ⟨HO, HA, HB⟩
  ihave HB' := (Entails.of_eq (behind_step (waitGot X G c 1) k)) $$ HB
  icases HB' with ⟨HG, HB⟩
  ihave HG' := (Entails.of_eq (show waitGot X G c 1 k = iprop(atPos ER (xCell c 1 k) 1 ∅ 0 ∗ xPay X G c (1 : Fin 4).val k) from rfl)) $$ HG
  icases HG' with ⟨Hat, Hpay⟩
  ihave Hslot := (Entails.of_eq (show xPay X G c (1 : Fin 4).val k = slotPts c k (landed X c) from rfl)) $$ Hpay
  unfold slotPts
  iapply (wp_load 𝒱₀ (c : Thread nD τ) none Set.univ (m := bufM) (slot_sub k)) $$ Hslot
  iintro Hslot
  iapply Hk
  isplitl [HO]; · iexact HO
  isplitl [HA]; · iexact HA
  iapply (Entails.of_eq (behind_step (waitGot X G c 1) k).symm)
  isplitl [Hat Hslot]
  · unfold waitGot
    isplitl [Hat]; · iexact Hat
    iapply (Entails.of_eq (show slotPts c k (landed X c) = xPay X G c (1 : Fin 4).val k from rfl))
    unfold slotPts; iexact Hslot
  iexact HB

omit [FloatOps F] [Named F] in
/-- With nothing owed one may wait anywhere. -/
theorem mayWait_done (c : Dev nD) (sm : SemLoc sig) : (levAts L lv : sProp 𝕄) ⊢ MayWait (c : Thread nD τ) sm () (owing c 7 7 7) := by
  rw [owing_none, MayWait_zero]; iintro -; iempintro

end Cert.Proof

end
-- ==== Proof.Body.lean ====
/-
The kernel's body on one device: the signals and the barrier, the partial product, the first exchange and its sums, the
second exchange, and the waits for its own copies.
-/
module

public import proofs.«01_k».proof.Proof.Families

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F] [Named F]

local notation "𝕄" => MT nD τ sig Unit (Elt F) ℕ UU ℕ

variable (X : Dev nD → Part F) (κ : GSem nD τ sig → ℕ)

/-- The five input windows of a device, at their contents. -/
def inputs (c : Dev nD) (x : Vec F S2x128x512 .f32) (wq : Vec F S512x256 .f32) (kk vv : Vec F S2x128x4x64 .f32) (wo : Vec F S256x512 .f32) : sProp 𝕄 :=
  iprop((((c : Thread nD τ).loc cc0_stg0_0) ↦{fullShare} x) ∗ (((c : Thread nD τ).loc cc0_stg1_0) ↦{fullShare} wq)
    ∗ (((c : Thread nD τ).loc cc0_stg2_0) ↦{fullShare} kk) ∗ (((c : Thread nD τ).loc cc0_stg3_0) ↦{fullShare} vv)
    ∗ (((c : Thread nD τ).loc cc0_stg4_0) ↦{fullShare} wo))

/-- The kernel's own buffers, at some contents. -/
def scratch (c : Dev nD) : sProp 𝕄 :=
  iprop((∃ f : Part F, ((c : Thread nD τ).loc cc0_scratch0) ↦{fullShare} f) ∗ ∃ f : Slots F, ((c : Thread nD τ).loc cc0_scratch1) ↦{fullShare} f)

/-- The counters of the exchanges' semaphores at zero. -/
def zeroed (c : Dev nD) : sProp 𝕄 :=
  iprop(semVal (barCell c) 0 ∗ bigSep Finset.univ fun a : Fin 4 => bigSep Finset.univ fun k => semVal (xCell c a k) 0)

/-- The rows of the result that device `c` receives from the device `k + 1` places before, as the kernel slices them. -/
abbrev backM (c : Dev nD) (k : Fin 7) : Memref sig .tc .vmem S32x512 .f32 :=
  (outM.slice (Rect.unit (s := S2x128x512) (k0_off5 c (BitVec.ofNat 32 (1 + k.val))) S1x32x512.size (k0_off5_inb c k)) (fun _ => rfl)).squeeze S32x512 squeezes_S1x32x512_S32x512

theorem bigSep_four {M : Type} [URA M] (Φ : Fin 4 → sProp M) :
    bigSep Finset.univ Φ = iprop(Φ 0 ∗ Φ 1 ∗ Φ 2 ∗ Φ 3) := by
  rw [bigSep_succ, bigSep_succ, bigSep_succ, bigSep_succ]
  rw [show (bigSep Finset.univ fun k : Fin 0 => Φ k.succ.succ.succ.succ) = iprop(emp) from BI.bigSep_empty]
  exact congrArg (fun P => iprop(Φ 0 ∗ Φ 1 ∗ Φ 2 ∗ P)) (show iprop(Φ 3 ∗ emp) = Φ 3 from equiv_iff.mp BI.sep_emp)

/-- The exchanges over, the buffers are whole again and the counters at zero. -/
theorem body_close (c : Dev nD) (fs : Slots F) :
    iprop(known X (result X) κ ∗ partPts X c c ∗ spare c fs ∗ outPts c c (ShareLeaves.leaf 3 fullShare (0 : Fin 8)) (result X)
        ∗ (bigSep Finset.univ fun k => xPay X (result X) c (0 : Fin 4).val k) ∗ (bigSep Finset.univ fun k => xPay X (result X) c (1 : Fin 4).val k)
        ∗ (bigSep Finset.univ fun k => xPay X (result X) c (2 : Fin 4).val k) ∗ (bigSep Finset.univ fun k => xPay X (result X) c (3 : Fin 4).val k)
        ∗ atPos ER (barCell c) (0 + 1) ∅ 0 ∗ bigSep Finset.univ fun a : Fin 4 => bigSep Finset.univ fun k => atPos ER (xCell c a k) 1 ∅ 0)
      ⊢ iprop(|={Set.univ}=> ((((c : Thread nD τ).loc cc0_stg5_0) ↦{fullShare} result X) ∗ scratch c ∗ zeroed c)) := by
  rw [out_split c (result X), bigSep_around_back c, own_split c (result X)]
  show BIBase.Entails iprop(known X (result X) κ ∗ partPts X c c ∗ spare c fs ∗ outPts c c (ShareLeaves.leaf 3 fullShare (0 : Fin 8)) (result X)
        ∗ (bigSep Finset.univ fun k => partPts X c (peer k c)) ∗ (bigSep Finset.univ fun k => slotPts c k (landed X c))
        ∗ (bigSep Finset.univ fun k => outPts c c (lent k) (result X)) ∗ (bigSep Finset.univ fun k => outPts c (back k c) fullShare (result X))
        ∗ atPos ER (barCell c) (0 + 1) ∅ 0 ∗ bigSep Finset.univ fun a : Fin 4 => bigSep Finset.univ fun k => atPos ER (xCell c a k) 1 ∅ 0) _
  iintro ⟨#HR, Hmine, Hspare, Hkept, Htheirs, Hlanded, Hlent, Hothers, Hat, Hats⟩
  imod (Rounds.cell_close ER (sched X (result X)) (g := barCell c) (κ := κ (barCell c)) (Set.mem_univ _) (fun h => h) (R := 0 + 1) (duties_later X (result X) _)) $$ [Hat] with Hb
  · isplitr; · iapply (known_bar X (result X) κ c); iexact HR
    iexact Hat
  ihave Hz := (show iprop(known X (result X) κ ∗ bigSep Finset.univ fun a : Fin 4 => bigSep Finset.univ fun k => atPos ER (xCell c a k) 1 ∅ 0)
      ⊢ iprop(|={Set.univ}=> bigSep Finset.univ fun a : Fin 4 => bigSep Finset.univ fun k => semVal (xCell c a k) 0) from
    (bigSep_with_persistent (Ψ := fun a => iprop(|={Set.univ}=> bigSep Finset.univ fun k => semVal (xCell c a k) 0))
      fun a _ => close_family X (result X) κ c a).trans (bigSep_fupd _ _)) $$ [Hats]
  · isplitr; · iexact HR
    iexact Hats
  imod Hz with Hz
  imodintro
  ihave Hslots := (slots_join c fs (landed X c)) $$ [Hspare Hlanded]
  · isplitl [Hspare] <;> iassumption
  ihave Hpart := (Entails.of_eq (part_split X c).symm) $$ [Hmine Htheirs]
  · isplitl [Hmine] <;> iassumption
  isplitl [Hkept Hlent Hothers]
  · isplitl [Hkept Hlent]
    · isplitl [Hkept] <;> iassumption
    iexact Hothers
  unfold scratch zeroed
  isplitl [Hpart Hslots]
  · isplitl [Hpart]; · iexists _; iexact Hpart
    iexact Hslots
  isplitl [Hb]; · iexact Hb
  iexact Hz

def runPre (c : Dev nD) (x : Vec F S2x128x512 .f32) (wq : Vec F S512x256 .f32) (kk vv : Vec F S2x128x4x64 .f32) (wo : Vec F S256x512 .f32) : sProp 𝕄 :=
  iprop(inputs c x wq kk vv wo ∗ (∃ f : Res F, ((c : Thread nD τ).loc cc0_stg5_0) ↦{fullShare} f) ∗ scratch c
    ∗ owed c (owing c 0 0 0) ∗ start c
    ∗ (places c 0 ∗ places c 1 ∗ places c 2 ∗ places c 3) ∗ (opened c 0 ∗ opened c 1 ∗ opened c 2 ∗ opened c 3))
def runPost (c : Dev nD) (x : Vec F S2x128x512 .f32) (wq : Vec F S512x256 .f32) (kk vv : Vec F S2x128x4x64 .f32) (wo : Vec F S256x512 .f32) : sProp 𝕄 :=
  iprop(inputs c x wq kk vv wo ∗ (((c : Thread nD τ).loc cc0_stg5_0) ↦{fullShare} result X) ∗ scratch c
    ∗ owed c 0 ∗ zeroed c)

set_option maxHeartbeats 4000000 in
theorem body_run (c : Dev nD) (x : Vec F S2x128x512 .f32) (wq : Vec F S512x256 .f32) (kk vv : Vec F S2x128x4x64 .f32) (wo : Vec F S256x512 .f32)
    (hX : X c = partOf x wq kk vv wo) (Kt : PUnit → sProp 𝕄) :
    known X (result X) κ ⊢ iprop(runPre c x wq kk vv wo -∗ (runPost X c x wq kk vv wo -∗ Kt ⟨⟩)
      -∗ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3 cc0_scratch4 cc0_scratch5) Kt) := by
  rw [cc0_body_eq_skeleton]; unfold cc0_body_skel
  unfold runPre inputs scratch start
  iintro #HR ⟨⟨Hx, Hwq, Hkk, Hvv, Hwo⟩, ⟨%fo, Hout⟩, ⟨⟨%fp, Hpart⟩, ⟨%fs, Hslots⟩⟩, HO,
    ⟨Htb, Ht0, Ht1, Ht2, Ht3, Hat, Hcb, Hc1, Hc3⟩, ⟨Hp0, Hp1, Hp2, Hp3⟩, ⟨#Hr0, #Hr1, #Hr2, #Hr3⟩⟩ Hk
  -- the signals
  ihave Hslots' := (Entails.of_eq (slots_split c fs)) $$ Hslots
  icases Hslots' with ⟨Hspare, Hslots⟩
  ihave Hout' := (Entails.of_eq ((out_split c fo).trans (bigSep_around c fun e => outPts c e fullShare fo))) $$ Hout
  icases Hout' with ⟨Hown, Hrows⟩
  ihave Hs := (sig_family c fs fo) $$ [Htb Hslots Hrows]
  · isplitl [Htb]; · iexact Htb
    isplitl [Hslots]; · iexact Hslots
    isplitl [Hrows]; · iexact Hrows
    isplitr; · iexact Hr1
    iexact Hr3
  ihave HS := (Entails.of_eq (ahead_zero (sigNeed (F := F) c))) $$ Hs
  rw [k0_part1_eq_skeleton]; unfold k0_part1_skel
  simp only [semSignalWord, semWaitWord, Prog.lift, Prog.bind_op, Prog.bind_ret, Prog.pure_eq_ret, wp_deviceId]
  iapply (step_signal X (result X) κ c _ 0 0 1 (Fin.ext (k0_dev1_eq c)) rfl) $$ HR HO HS
  iintro ⟨HO, HS⟩
  iapply (step_signal X (result X) κ c _ 1 1 2 (Fin.ext (k0_dev2_eq c)) rfl) $$ HR HO HS
  iintro ⟨HO, HS⟩
  iapply (step_signal X (result X) κ c _ 2 2 3 (Fin.ext (k0_dev3_eq c)) rfl) $$ HR HO HS
  iintro ⟨HO, HS⟩
  iapply (step_signal X (result X) κ c _ 3 3 4 (Fin.ext (k0_dev4_eq c)) rfl) $$ HR HO HS
  iintro ⟨HO, HS⟩
  iapply (step_signal X (result X) κ c _ 4 4 5 (Fin.ext (k0_dev5_eq c)) rfl) $$ HR HO HS
  iintro ⟨HO, HS⟩
  rw [k0_part2_eq_skeleton]; unfold k0_part2_skel
  simp only [semSignalWord, semWaitWord, Prog.lift, Prog.bind_op, Prog.bind_ret, Prog.pure_eq_ret, wp_deviceId]
  iapply (step_signal X (result X) κ c _ 5 5 6 (Fin.ext (k0_dev6_eq c)) rfl) $$ HR HO HS
  iintro ⟨HO, HS⟩
  iapply (step_signal X (result X) κ c _ 6 6 7 (Fin.ext (k0_dev7_eq c)) rfl) $$ HR HO HS
  iintro ⟨HO, HS⟩
  -- the barrier
  unfold owed
  icases HO with ⟨%W, HO⟩
  iapply (Rounds.wp_wait_rest_token 𝒱₀ ER (sched X (result X)) (c : Thread nD τ) none (κ := κ (barCell c))
      (wpE_semWait_eq 𝒱₀ (c : Thread nD τ) none Set.univ) (Set.mem_univ _) () (O := owing c 7 0 0) (W := W) (R := 0) (m := 0) (T := ∅)
      (by rw [show ((c : Thread nD τ), SemLoc.reg barS) = barCell c from rfl, expect_bar]; decide)) $$ [Hcb HO Hat]
  · isplitr; · iapply (known_bar X (result X) κ c); iexact HR
    isplitl [Hcb]; · iexact Hcb
    isplitl [HO]; · iexact HO
    isplitr; · iapply (mayWait_bar c 0 0); iapply (known_levels X (result X) κ); iexact HR
    iexact Hat
  iintro ⟨HO, Hat, -, Hpay⟩
  ihave Hp := (Entails.of_eq ((rest_bar X (result X) c).trans (bar_family c))) $$ Hpay
  icases Hp with ⟨Hps, Hpr, Hpr1, Hpr3⟩
  -- the loads of the inputs and the partial product
  iapply (wp_load 𝒱₀ (c : Thread nD τ) none Set.univ (m := Memref.whole cc0_stg0_0) (Finset.subset_univ _)) $$ Hx
  iintro Hx
  rw [load_x]
  iapply (wp_load 𝒱₀ (c : Thread nD τ) none Set.univ (m := Memref.whole cc0_stg1_0) (Finset.subset_univ _)) $$ Hwq
  iintro Hwq
  rw [load_wq]
  rw [k0_part3_eq_skeleton]; unfold k0_part3_skel
  simp only [semSignalWord, semWaitWord, Prog.lift, Prog.bind_op, Prog.bind_ret, Prog.pure_eq_ret, wp_deviceId]
  iapply (wp_load 𝒱₀ (c : Thread nD τ) none Set.univ (m := Memref.whole cc0_stg2_0) (Finset.subset_univ _)) $$ Hkk
  iintro Hkk
  rw [load_kk]
  iapply (wp_load 𝒱₀ (c : Thread nD τ) none Set.univ (m := Memref.whole cc0_stg3_0) (Finset.subset_univ _)) $$ Hvv
  iintro Hvv
  rw [load_vv]
  rw [k0_part4_eq_skeleton]; unfold k0_part4_skel
  simp only [semSignalWord, semWaitWord, Prog.lift, Prog.bind_op, Prog.bind_ret, Prog.pure_eq_ret, wp_deviceId]
  rw [k0_part5_eq_skeleton]; unfold k0_part5_skel
  simp only [semSignalWord, semWaitWord, Prog.lift, Prog.bind_op, Prog.bind_ret, Prog.pure_eq_ret, wp_deviceId]
  iapply (wp_load 𝒱₀ (c : Thread nD τ) none Set.univ (m := Memref.whole cc0_stg4_0) (Finset.subset_univ _)) $$ Hwo
  iintro Hwo
  rw [load_wo]
  iapply (wp_load 𝒱₀ (c : Thread nD τ) none Set.univ (m := parM) (Finset.subset_univ _)) $$ Hpart
  iintro Hpart
  iapply (wp_store 𝒱₀ (c : Thread nD τ) none Set.univ (m := parM) (r := Rect.unit (s := S256x512) ![0, 0] S256x512.size inb_S256x512_S256x512_0_0)
    (Mk := Finset.univ) (Finset.subset_univ _)) $$ Hpart
  iintro Hpart
  rw [store_part]
  ihave Hpart' : ((((c : Thread nD τ).loc cc0_scratch0) ↦{fullShare} partOf x wq kk vv wo) : sProp 𝕄) $$ [Hpart]
  · unfold partOf; iexact Hpart
  ihave Hrows := (Entails.of_eq ((congrArg (fun g : Part F => ((((c : Thread nD τ).loc cc0_scratch0) ↦{fullShare} g) : sProp 𝕄)) hX.symm).trans (part_split X c))) $$ Hpart'
  icases Hrows with ⟨Hmine, Htheirs⟩
  -- the first exchange
  iclear HS
  ihave Hs := (rs_family X c) $$ [Htheirs Hps Ht0 Ht1 Hpr1]
  · isplitl [Htheirs]; · iexact Htheirs
    isplitl [Hps]; · iexact Hps
    isplitl [Ht0]; · iexact Ht0
    isplitr; · iexact Hr0
    isplitl [Ht1] <;> iassumption
  ihave HS := (Entails.of_eq (ahead_zero (rsNeed X c))) $$ Hs
  ihave HC : behind (fun k => cred (tallyAt (xCell c 0 k) () N)) 0 $$ []
  · rw [behind_zero]; iempintro
  ihave HO := (show _ ⊢ owed (F := F) c (owing c 7 0 0) from exists_intro _) $$ HO
  rw [k0_part6_eq_skeleton]; unfold k0_part6_skel
  simp only [semSignalWord, semWaitWord, Prog.lift, Prog.bind_op, Prog.bind_ret, Prog.pure_eq_ret, wp_deviceId]
  iapply (step_rs X (result X) κ c _ 0 0 1 (Fin.ext (k0_dev8_eq c))) $$ HR HO HS HC
  iintro ⟨HO, HS, HC⟩
  iapply (step_rs X (result X) κ c _ 1 1 2 (Fin.ext (k0_dev9_eq c))) $$ HR HO HS HC
  iintro ⟨HO, HS, HC⟩
  iapply (step_rs X (result X) κ c _ 2 2 3 (Fin.ext (k0_dev10_eq c))) $$ HR HO HS HC
  iintro ⟨HO, HS, HC⟩
  rw [k0_part7_eq_skeleton]; unfold k0_part7_skel
  simp only [semSignalWord, semWaitWord, Prog.lift, Prog.bind_op, Prog.bind_ret, Prog.pure_eq_ret, wp_deviceId]
  iapply (step_rs X (result X) κ c _ 3 3 4 (Fin.ext (k0_dev11_eq c))) $$ HR HO HS HC
  iintro ⟨HO, HS, HC⟩
  iapply (step_rs X (result X) κ c _ 4 4 5 (Fin.ext (k0_dev12_eq c))) $$ HR HO HS HC
  iintro ⟨HO, HS, HC⟩
  rw [k0_part8_eq_skeleton]; unfold k0_part8_skel
  simp only [semSignalWord, semWaitWord, Prog.lift, Prog.bind_op, Prog.bind_ret, Prog.pure_eq_ret, wp_deviceId]
  iapply (step_rs X (result X) κ c _ 5 5 6 (Fin.ext (k0_dev13_eq c))) $$ HR HO HS HC
  iintro ⟨HO, HS, HC⟩
  iapply (step_rs X (result X) κ c _ 6 6 7 (Fin.ext (k0_dev14_eq c))) $$ HR HO HS HC
  iintro ⟨HO, HS, HC⟩
  ihave HC' := (Entails.of_eq (behind_end (fun k => cred (tallyAt (xCell c 0 k) () N)))) $$ HC
  iclear HS
  -- the sum of its own rows and the seven landed blocks
  unfold partPts
  iapply (wp_load 𝒱₀ (c : Thread nD τ) none Set.univ (m := parM) (rows_sub c)) $$ Hmine
  iintro Hmine
  rw [read_rows c (X c)]
  ihave Ha := (wait_family (F := F) c 1) $$ [Hc1 Hp1]
  · isplitl [Hc1] <;> iassumption
  ihave HA := (Entails.of_eq (ahead_zero (waitNeed (F := F) c 1))) $$ Ha
  ihave HB : behind (waitGot X (result X) c 1) 0 $$ []
  · rw [behind_zero]; iempintro
  rw [k0_part9_eq_skeleton]; unfold k0_part9_skel
  simp only [semSignalWord, semWaitWord, Prog.lift, Prog.bind_op, Prog.bind_ret, Prog.pure_eq_ret, wp_deviceId]
  iapply (step_recv X (result X) κ c 0 0 1 (src := slotM 0) (dst := slotM 0) rfl) $$ HR HO HA HB
  iintro ⟨HO, HA, HB⟩
  iapply (step_recv X (result X) κ c 1 1 2 (src := slotM 1) (dst := slotM 1) rfl) $$ HR HO HA HB
  iintro ⟨HO, HA, HB⟩
  iapply (step_recv X (result X) κ c 2 2 3 (src := slotM 2) (dst := slotM 2) rfl) $$ HR HO HA HB
  iintro ⟨HO, HA, HB⟩
  rw [k0_part10_eq_skeleton]; unfold k0_part10_skel
  simp only [semSignalWord, semWaitWord, Prog.lift, Prog.bind_op, Prog.bind_ret, Prog.pure_eq_ret, wp_deviceId]
  iapply (step_recv X (result X) κ c 3 3 4 (src := slotM 3) (dst := slotM 3) rfl) $$ HR HO HA HB
  iintro ⟨HO, HA, HB⟩
  iapply (step_recv X (result X) κ c 4 4 5 (src := slotM 4) (dst := slotM 4) rfl) $$ HR HO HA HB
  iintro ⟨HO, HA, HB⟩
  rw [k0_part11_eq_skeleton]; unfold k0_part11_skel
  simp only [semSignalWord, semWaitWord, Prog.lift, Prog.bind_op, Prog.bind_ret, Prog.pure_eq_ret, wp_deviceId]
  iapply (step_recv X (result X) κ c 5 5 6 (src := slotM 5) (dst := slotM 5) rfl) $$ HR HO HA HB
  iintro ⟨HO, HA, HB⟩
  iapply (step_recv X (result X) κ c 6 6 7 (src := slotM 6) (dst := slotM 6) rfl) $$ HR HO HA HB
  iintro ⟨HO, HA, HB⟩
  ihave HB' := (Entails.of_eq (behind_end (waitGot X (result X) c 1))) $$ HB
  ihave HG := (got_family X (result X) c 1) $$ HB'
  icases HG with ⟨Hp1, Hlanded⟩
  iclear HA
  unfold outPts
  iapply (wp_load 𝒱₀ (c : Thread nD τ) none Set.univ (m := outM) (out_load_sub c)) $$ Hown
  iintro Hown
  iapply (wp_store 𝒱₀ (c : Thread nD τ) none Set.univ (m := outM) (r := Rect.unit (s := S2x128x512) (k0_off3 c) S1x32x512.size (k0_off3_inb c))
    (Mk := Finset.univ) (out_store_sub c)) $$ Hown
  iintro Hown
  ihave Hown : ((((c : Thread nD τ).loc cc0_stg5_0) ↦[(outR c).set]{fullShare}
      (outM.access (Rect.unit (s := S2x128x512) (k0_off3 c) S1x32x512.size (k0_off3_inb c))).write (Elt F) fo (acc X c) Finset.univ) : sProp 𝕄) $$ [Hown]
  · unfold acc ownRows; iexact Hown
  ihave Hown' := (Entails.of_eq (pointsTo_congr (ℓ := (c : Thread nD τ).loc cc0_stg5_0) (q := fullShare) (write_acc X c fo))) $$ Hown
  ihave Hown := (Entails.of_eq (show ((((c : Thread nD τ).loc cc0_stg5_0) ↦[(outR c).set]{fullShare} result X) : sProp 𝕄) = outPts c c fullShare (result X) from rfl)) $$ Hown'
  ihave Hown' := (Entails.of_eq (own_split c (result X))) $$ Hown
  icases Hown' with ⟨Hkept, Hlent⟩
  ihave Ha := (wait_family (F := F) c 0) $$ [HC' Hp0]
  · isplitl [HC'] <;> iassumption
  ihave HA := (Entails.of_eq (ahead_zero (waitNeed (F := F) c 0))) $$ Ha
  ihave HB : behind (waitGot X (result X) c 0) 0 $$ []
  · rw [behind_zero]; iempintro
  rw [k0_part12_eq_skeleton]; unfold k0_part12_skel
  simp only [semSignalWord, semWaitWord, Prog.lift, Prog.bind_op, Prog.bind_ret, Prog.pure_eq_ret, wp_deviceId]
  iapply (step_wait X (result X) κ c 0 0 0 1 (owing c 7 7 0) (mayWait_low c _ (by decide) 7 7 0) (src := slotM 0) (dst := rowM c 0) rfl) $$ HR HO HA HB
  iintro ⟨HO, HA, HB⟩
  iapply (step_wait X (result X) κ c 0 1 1 2 (owing c 7 7 0) (mayWait_low c _ (by decide) 7 7 0) (src := slotM 1) (dst := rowM c 1) rfl) $$ HR HO HA HB
  iintro ⟨HO, HA, HB⟩
  iapply (step_wait X (result X) κ c 0 2 2 3 (owing c 7 7 0) (mayWait_low c _ (by decide) 7 7 0) (src := slotM 2) (dst := rowM c 2) rfl) $$ HR HO HA HB
  iintro ⟨HO, HA, HB⟩
  iapply (step_wait X (result X) κ c 0 3 3 4 (owing c 7 7 0) (mayWait_low c _ (by decide) 7 7 0) (src := slotM 3) (dst := rowM c 3) rfl) $$ HR HO HA HB
  iintro ⟨HO, HA, HB⟩
  iapply (step_wait X (result X) κ c 0 4 4 5 (owing c 7 7 0) (mayWait_low c _ (by decide) 7 7 0) (src := slotM 4) (dst := rowM c 4) rfl) $$ HR HO HA HB
  iintro ⟨HO, HA, HB⟩
  rw [k0_part13_eq_skeleton]; unfold k0_part13_skel
  simp only [semSignalWord, semWaitWord, Prog.lift, Prog.bind_op, Prog.bind_ret, Prog.pure_eq_ret, wp_deviceId]
  iapply (step_wait X (result X) κ c 0 5 5 6 (owing c 7 7 0) (mayWait_low c _ (by decide) 7 7 0) (src := slotM 5) (dst := rowM c 5) rfl) $$ HR HO HA HB
  iintro ⟨HO, HA, HB⟩
  iapply (step_wait X (result X) κ c 0 6 6 7 (owing c 7 7 0) (mayWait_low c _ (by decide) 7 7 0) (src := slotM 6) (dst := rowM c 6) rfl) $$ HR HO HA HB
  iintro ⟨HO, HA, HB⟩
  ihave HB' := (Entails.of_eq (behind_end (waitGot X (result X) c 0))) $$ HB
  ihave HG := (got_family X (result X) c 0) $$ HB'
  icases HG with ⟨Hp0, Htheirs⟩
  iclear HA
  -- the second exchange
  ihave Hs := (ag_family (result X) c) $$ [Hlent Hpr Ht2 Ht3 Hpr3]
  · isplitl [Hlent]; · iexact Hlent
    isplitl [Hpr]; · iexact Hpr
    isplitl [Ht2]; · iexact Ht2
    isplitr; · iexact Hr2
    isplitl [Ht3] <;> iassumption
  ihave HS := (Entails.of_eq (ahead_zero (agNeed (result X) c))) $$ Hs
  ihave HC : behind (fun k => cred (tallyAt (xCell c 2 k) () N)) 0 $$ []
  · rw [behind_zero]; iempintro
  iapply (step_ag X (result X) κ c _ 0 0 1 (Fin.ext (k0_dev15_eq c))) $$ HR HO HS HC
  iintro ⟨HO, HS, HC⟩
  rw [k0_part14_eq_skeleton]; unfold k0_part14_skel
  simp only [semSignalWord, semWaitWord, Prog.lift, Prog.bind_op, Prog.bind_ret, Prog.pure_eq_ret, wp_deviceId]
  iapply (step_ag X (result X) κ c _ 1 1 2 (Fin.ext (k0_dev16_eq c))) $$ HR HO HS HC
  iintro ⟨HO, HS, HC⟩
  iapply (step_ag X (result X) κ c _ 2 2 3 (Fin.ext (k0_dev17_eq c))) $$ HR HO HS HC
  iintro ⟨HO, HS, HC⟩
  iapply (step_ag X (result X) κ c _ 3 3 4 (Fin.ext (k0_dev18_eq c))) $$ HR HO HS HC
  iintro ⟨HO, HS, HC⟩
  rw [k0_part15_eq_skeleton]; unfold k0_part15_skel
  simp only [semSignalWord, semWaitWord, Prog.lift, Prog.bind_op, Prog.bind_ret, Prog.pure_eq_ret, wp_deviceId]
  iapply (step_ag X (result X) κ c _ 4 4 5 (Fin.ext (k0_dev19_eq c))) $$ HR HO HS HC
  iintro ⟨HO, HS, HC⟩
  iapply (step_ag X (result X) κ c _ 5 5 6 (Fin.ext (k0_dev20_eq c))) $$ HR HO HS HC
  iintro ⟨HO, HS, HC⟩
  iapply (step_ag X (result X) κ c _ 6 6 7 (Fin.ext (k0_dev21_eq c))) $$ HR HO HS HC
  iintro ⟨HO, HS, HC⟩
  ihave HC' := (Entails.of_eq (behind_end (fun k => cred (tallyAt (xCell c 2 k) () N)))) $$ HC
  iclear HS
  ihave Ha := (wait_family (F := F) c 3) $$ [Hc3 Hp3]
  · isplitl [Hc3] <;> iassumption
  ihave HA := (Entails.of_eq (ahead_zero (waitNeed (F := F) c 3))) $$ Ha
  ihave HB : behind (waitGot X (result X) c 3) 0 $$ []
  · rw [behind_zero]; iempintro
  rw [k0_part16_eq_skeleton]; unfold k0_part16_skel
  simp only [semSignalWord, semWaitWord, Prog.lift, Prog.bind_op, Prog.bind_ret, Prog.pure_eq_ret, wp_deviceId]
  iapply (step_wait X (result X) κ c 3 0 0 1 (owing c 7 7 7) (mayWait_done c _) (src := backM c 0) (dst := backM c 0) rfl) $$ HR HO HA HB
  iintro ⟨HO, HA, HB⟩
  iapply (step_wait X (result X) κ c 3 1 1 2 (owing c 7 7 7) (mayWait_done c _) (src := backM c 1) (dst := backM c 1) rfl) $$ HR HO HA HB
  iintro ⟨HO, HA, HB⟩
  rw [k0_part17_eq_skeleton]; unfold k0_part17_skel
  simp only [semSignalWord, semWaitWord, Prog.lift, Prog.bind_op, Prog.bind_ret, Prog.pure_eq_ret, wp_deviceId]
  iapply (step_wait X (result X) κ c 3 2 2 3 (owing c 7 7 7) (mayWait_done c _) (src := backM c 2) (dst := backM c 2) rfl) $$ HR HO HA HB
  iintro ⟨HO, HA, HB⟩
  iapply (step_wait X (result X) κ c 3 3 3 4 (owing c 7 7 7) (mayWait_done c _) (src := backM c 3) (dst := backM c 3) rfl) $$ HR HO HA HB
  iintro ⟨HO, HA, HB⟩
  rw [k0_part18_eq_skeleton]; unfold k0_part18_skel
  simp only [semSignalWord, semWaitWord, Prog.lift, Prog.bind_op, Prog.bind_ret, Prog.pure_eq_ret, wp_deviceId]
  iapply (step_wait X (result X) κ c 3 4 4 5 (owing c 7 7 7) (mayWait_done c _) (src := backM c 4) (dst := backM c 4) rfl) $$ HR HO HA HB
  iintro ⟨HO, HA, HB⟩
  rw [k0_part19_eq_skeleton]; unfold k0_part19_skel
  simp only [semSignalWord, semWaitWord, Prog.lift, Prog.bind_op, Prog.bind_ret, Prog.pure_eq_ret, wp_deviceId]
  iapply (step_wait X (result X) κ c 3 5 5 6 (owing c 7 7 7) (mayWait_done c _) (src := backM c 5) (dst := backM c 5) rfl) $$ HR HO HA HB
  iintro ⟨HO, HA, HB⟩
  iapply (step_wait X (result X) κ c 3 6 6 7 (owing c 7 7 7) (mayWait_done c _) (src := backM c 6) (dst := backM c 6) rfl) $$ HR HO HA HB
  iintro ⟨HO, HA, HB⟩
  ihave HB' := (Entails.of_eq (behind_end (waitGot X (result X) c 3))) $$ HB
  ihave HG := (got_family X (result X) c 3) $$ HB'
  icases HG with ⟨Hp3, Hothers⟩
  iclear HA
  ihave Ha := (wait_family (F := F) c 2) $$ [HC' Hp2]
  · isplitl [HC'] <;> iassumption
  ihave HA := (Entails.of_eq (ahead_zero (waitNeed (F := F) c 2))) $$ Ha
  ihave HB : behind (waitGot X (result X) c 2) 0 $$ []
  · rw [behind_zero]; iempintro
  iapply (step_wait X (result X) κ c 2 0 0 1 (owing c 7 7 7) (mayWait_done c _) (src := ownM c) (dst := ownM c) rfl) $$ HR HO HA HB
  iintro ⟨HO, HA, HB⟩
  rw [k0_part20_eq_skeleton]; unfold k0_part20_skel
  simp only [semSignalWord, semWaitWord, Prog.lift, Prog.bind_op, Prog.bind_ret, Prog.pure_eq_ret, wp_deviceId]
  iapply (step_wait X (result X) κ c 2 1 1 2 (owing c 7 7 7) (mayWait_done c _) (src := ownM c) (dst := ownM c) rfl) $$ HR HO HA HB
  iintro ⟨HO, HA, HB⟩
  iapply (step_wait X (result X) κ c 2 2 2 3 (owing c 7 7 7) (mayWait_done c _) (src := ownM c) (dst := ownM c) rfl) $$ HR HO HA HB
  iintro ⟨HO, HA, HB⟩
  iapply (step_wait X (result X) κ c 2 3 3 4 (owing c 7 7 7) (mayWait_done c _) (src := ownM c) (dst := ownM c) rfl) $$ HR HO HA HB
  iintro ⟨HO, HA, HB⟩
  iapply (step_wait X (result X) κ c 2 4 4 5 (owing c 7 7 7) (mayWait_done c _) (src := ownM c) (dst := ownM c) rfl) $$ HR HO HA HB
  iintro ⟨HO, HA, HB⟩
  iapply (step_wait X (result X) κ c 2 5 5 6 (owing c 7 7 7) (mayWait_done c _) (src := ownM c) (dst := ownM c) rfl) $$ HR HO HA HB
  iintro ⟨HO, HA, HB⟩
  iapply (step_wait X (result X) κ c 2 6 6 7 (owing c 7 7 7) (mayWait_done c _) (src := ownM c) (dst := ownM c) rfl) $$ HR HO HA HB
  iintro ⟨HO, HA, HB⟩
  ihave HB' := (Entails.of_eq (behind_end (waitGot X (result X) c 2))) $$ HB
  ihave HG := (got_family X (result X) c 2) $$ HB'
  icases HG with ⟨Hp2, Hlent⟩
  iclear HA
  -- the close
  ihave Hmine' : partPts X c c $$ [Hmine]
  · unfold partPts; iexact Hmine
  ihave HO := (Entails.of_eq (congrArg (owed (F := F) c) (owing_none c))) $$ HO
  rw [wp_ret]
  imod (body_close X κ c fs) $$ [Hmine' Hspare Hkept Htheirs Hlanded Hlent Hothers Hat Hp0 Hp1 Hp2 Hp3] with ⟨Hout, Hscr, Hz⟩
  · isplitr; · iexact HR
    isplitl [Hmine']; · iexact Hmine'
    isplitl [Hspare]; · iexact Hspare
    isplitl [Hkept]; · iexact Hkept
    isplitl [Htheirs]; · iexact Htheirs
    isplitl [Hlanded]; · iexact Hlanded
    isplitl [Hlent]; · iexact Hlent
    isplitl [Hothers]; · iexact Hothers
    isplitl [Hat]; · iexact Hat
    rw [bigSep_four]
    isplitl [Hp0]; · iexact Hp0
    isplitl [Hp1]; · iexact Hp1
    isplitl [Hp2] <;> iassumption
  imodintro
  iapply Hk
  unfold runPost inputs
  isplitl [Hx Hwq Hkk Hvv Hwo]
  · isplitl [Hx]; · iexact Hx
    isplitl [Hwq]; · iexact Hwq
    isplitl [Hkk]; · iexact Hkk
    isplitl [Hvv] <;> iassumption
  isplitl [Hout]; · iexact Hout
  isplitl [Hscr]; · iexact Hscr
  isplitl [HO]; · iexact HO
  iexact Hz

end Cert.Proof

end
-- ==== Proof.Region.lean ====
/-
The kernel as a region of @main: what its windows hold before and after, its body's obligation, and what it opens and
gives back.
-/
module

public import proofs.«01_k».proof.Proof.Body
public import proofs.«01_k».proof.Proof.Gen.KernelIdeal.Regions
public import proofs.«01_k».proof.Proof.Gen.KernelIdeal.Points
public import Idealize.ShloMosaic.Lib.Pipeline.RegionTalk
public import Idealize.ShloMosaic.Lib.Rounds.Family
public import Idealize.ShloMosaic.Lib.Pipeline.ValueKit.Geometry

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F] [Named F]

local notation "𝕄" => MT nD τ sig Unit (Elt F) ℕ UU ℕ

variable (X : Dev nD → Part F) (κ : GSem nD τ sig → ℕ)
open Idealize.ShloMosaic.Pipeline (Dat Seg HostSeg RegionSeg)

variable (m : (ℓ : Loc nD τ sig) → Buf (Elt F) ℓ)

/-! ## The contents -/

/-- What a device's five input windows hold. -/
def xIn (c : Dev nD) : Vec F S2x128x512 .f32 := V1 m c (Proc.devRef .tc main_arg0)
def wqIn (c : Dev nD) : Vec F S512x256 .f32 := V1 m c (Proc.devRef .tc main_v9)
def kIn (c : Dev nD) : Vec F S2x128x4x64 .f32 := V1 m c (Proc.devRef .tc main_arg2)
def vIn (c : Dev nD) : Vec F S2x128x4x64 .f32 := V1 m c (Proc.devRef .tc main_arg3)
def woIn (c : Dev nD) : Vec F S256x512 .f32 := V1 m c (Proc.devRef .tc main_v14)

/-- The partial product a device computes, and the result. -/
def parts (c : Dev nD) : Part F := partOf (xIn m c) (wqIn m c) (kIn m c) (vIn m c) (woIn m c)
abbrev out : Res F := result (parts m)

/-- What the region leaves in its result buffer. -/
def outs : Outs (F := F) := fun _ r c => if h : r = main_v15 then h ▸ out m else V1 m c (Proc.devRef .tc r)
theorem outs_res (c : Dev nD) : outs m 2 main_v15 c = out m := dif_pos rfl

/-! ## What a device brings, opens and gives back -/

/-- The kernel's own semaphores: the four arrays of seven. -/
abbrev osem : Fin 4 × Fin 7 → SemLoc sig := fun x => .dma (xs x.1 x.2)
theorem ownSemFacts : Pipeline.OwnSemFacts spec0 osem := by decide +kernel

/-- The rights to open a device's own semaphores. -/
def rights (c : Dev nD) : sProp 𝕄 := bigSep Finset.univ fun x : Fin 4 × Fin 7 => openTok ER (xCell c x.1 x.2)

def Tk (c : Dev nD) : sProp 𝕄 := iprop(∃ κ, known (parts m) (out m) κ ∗ rights c ∗ start c)
def Xk (c : Dev nD) : sProp 𝕄 :=
  iprop(∃ κ, known (parts m) (out m) κ ∗ start c
    ∗ (places c 0 ∗ places c 1 ∗ places c 2 ∗ places c 3) ∗ (opened c 0 ∗ opened c 1 ∗ opened c 2 ∗ opened c 3))
def Yk (c : Dev nD) : sProp 𝕄 := semVal (barCell c) 0

def prng (c : Dev nD) : sProp 𝕄 := iprop(∃ r, prngReg c r)

/-! ## The proof data -/

def dat0 (c : Dev nD) : Dat τ (Elt F) Unit ℕ UU ℕ cfg0 c where
  A w := V1 m c (Proc.devRef .tc (Pipeline.arrRef spec0 w))
  after w _ := match w with
    | ⟨0, _⟩ => xIn m c
    | ⟨1, _⟩ => wqIn m c
    | ⟨2, _⟩ => kIn m c
    | ⟨3, _⟩ => vIn m c
    | ⟨4, _⟩ => woIn m c
    | ⟨5, _⟩ => out m
  Φ t := match t with
    | ⟨0, _⟩ => iprop(Xk m c ∗ scratch c ∗ prng c)
    | ⟨_ + 1, _⟩ => iprop(zeroed c ∗ scratch c ∗ prng c)
  q _ := fullShare
  owed t := match t with
    | ⟨0, _⟩ => owing c 0 0 0
    | ⟨_ + 1, _⟩ => 0

abbrev pdats (p : Fin 1) (c : Dev nD) : Dat τ (Elt F) Unit ℕ UU ℕ (cfgs p) c := dat0 m c

omit [FloatOps F] [Named F] in
theorem owns_whole_eq (c : Dev nD) (b : Ref sig .tc) (v : b.ty.Contents (Elt F)) :
    (owns (Ix := Unit) (Name := ℕ) (U := UU) (Lvl := ℕ) (c : Thread nD τ) (Memref.whole b) fullShare v : sProp 𝕄)
      = iprop(∃ f : Buf (Elt F) (((c : Dev nD) : Thread nD τ).loc b), ⌜f = v⌝ ∗ (((c : Thread nD τ).loc b) ↦{fullShare} f)) := by
  unfold owns; simp only [Memref.view_whole, View.read_whole, View.set_whole]

/-- A staging buffer at given contents. -/
abbrev stg (c : Dev nD) (b : Ref sig .tc) (v : b.ty.Contents (Elt F)) : sProp 𝕄 :=
  iprop(∃ f : Buf (Elt F) (((c : Dev nD) : Thread nD τ).loc b), ⌜f = v⌝ ∗ (((c : Thread nD τ).loc b) ↦{fullShare} f))

def bodyPre (c : Dev nD) : sProp 𝕄 :=
  iprop((Xk m c ∗ scratch c ∗ prng c) ∗ (dat0 m c).owesAt () t0_0.castSucc
    ∗ (∃ d, stg c cc0_stg0_0 ((dat0 m c).before (0 : Fin 6) t0_0 d))
    ∗ (∃ d, stg c cc0_stg1_0 ((dat0 m c).before (1 : Fin 6) t0_0 d))
    ∗ (∃ d, stg c cc0_stg2_0 ((dat0 m c).before (2 : Fin 6) t0_0 d))
    ∗ (∃ d, stg c cc0_stg3_0 ((dat0 m c).before (3 : Fin 6) t0_0 d))
    ∗ (∃ d, stg c cc0_stg4_0 ((dat0 m c).before (4 : Fin 6) t0_0 d))
    ∗ (∃ d, stg c cc0_stg5_0 ((dat0 m c).before (5 : Fin 6) t0_0 d)))

def bodyPost (c : Dev nD) : sProp 𝕄 :=
  iprop((zeroed c ∗ scratch c ∗ prng c) ∗ (dat0 m c).owesAt () t0_0.succ
    ∗ stg c cc0_stg0_0 (xIn m c) ∗ stg c cc0_stg1_0 (wqIn m c) ∗ stg c cc0_stg2_0 (kIn m c) ∗ stg c cc0_stg3_0 (vIn m c)
    ∗ stg c cc0_stg4_0 (woIn m c) ∗ stg c cc0_stg5_0 (out m))

theorem owesAt_intro (c : Dev nD) (t : Fin (cfg0.N + 1)) (O : CellTallies nD τ sig Unit) (h : (dat0 m c).owed t = O) :
    owed (F := F) c O ⊢ (dat0 m c).owesAt () t := by
  unfold owed Dat.owesAt Pipeline.owesWithin Dat.bound; rw [h]
  iintro ⟨%W, HO⟩; iexists W; isplitr; · ipureintro; exact fun _ _ => Or.inl trivial
  iexact HO
theorem owesAt_elim (c : Dev nD) (t : Fin (cfg0.N + 1)) (O : CellTallies nD τ sig Unit) (h : (dat0 m c).owed t = O) :
    (dat0 m c).owesAt () t ⊢ owed (F := F) c O := by
  unfold owed Dat.owesAt Pipeline.owesWithin; rw [h]
  iintro ⟨%W, -, HO⟩; iexists W; iexact HO

theorem stg_intro (c : Dev nD) (b : Ref sig .tc) (v : b.ty.Contents (Elt F)) :
    (((c : Thread nD τ).loc b) ↦{fullShare} v : sProp 𝕄) ⊢ stg c b v := by
  iintro H; iexists _; isplitr; · ipureintro; rfl
  iexact H

/-- A fetched window's staging buffer holds its array's contents. -/
theorem stg_elim (c : Dev nD) (b : Ref sig .tc) {ι : Type} (v : ι → b.ty.Contents (Elt F)) (w : b.ty.Contents (Elt F)) (h : ∀ d, v d = w) :
    iprop(∃ d, stg c b (v d)) ⊢ (((c : Thread nD τ).loc b) ↦{fullShare} w : sProp 𝕄) := by
  iintro ⟨%d, %f, %hf, H⟩
  obtain rfl : f = w := hf.trans (h d)
  iexact H

theorem win_flat : ∀ (w : Fin 6) (a : Fin (cfg0.win w).shape.rank),
    (cfg0.win w).index t0_0 a = 0 ∧ (cfg0.win w).clip (cfg0.grid.coords t0_0) a = none := by
  decide +kernel

/-- A fetched window whose block is the whole array holds the array's contents. -/
theorem fetched_read {c : Dev nD} (dat : Dat τ (Elt F) Unit ℕ UU ℕ cfg0 c) (w : Fin 6) (d) (j : (cfg0.win w).block.Idx)
    (z : (cfg0.win w).shape.Idx) (hz : ∀ a, (z a).val = (j a).val) :
    dat.fetched w t0_0 d j = (cfg0.win w).arr.view.read (Elt F) (dat.A w) z := by
  have hj : ∀ a, (j a).val < (cfg0.win w).xsize (cfg0.grid.coords t0_0) a := fun a => by
    unfold Pipeline.Window.xsize; rw [(win_flat w a).2]; exact (j a).isLt
  unfold Dat.fetched Pipeline.Window.fill
  rw [dif_pos (((cfg0.win w).moved_iff _ j).mpr hj)]
  show (cfg0.win w).arr.view.read (Elt F) (dat.A w) (((cfg0.win w).rect t0_0).emb fun a => ⟨(j a).val, hj a⟩) = _
  refine congrArg _ (funext fun a => Fin.ext ?_)
  rw [Pipeline.Window.rect_emb_val_of_index_zero _ _ _ (win_flat w a).1, hz a]

theorem before_0 (c : Dev nD) (d) : (dat0 m c).before (0 : Fin 6) t0_0 d = xIn m c :=
  ((dat0 m c).before_fetched (0 : Fin 6) t0_0 (fetch0_0 t0_0) d).trans (funext fun j => fetched_read (dat0 m c) 0 d j j fun _ => rfl)
theorem before_1 (c : Dev nD) (d) : (dat0 m c).before (1 : Fin 6) t0_0 d = wqIn m c :=
  ((dat0 m c).before_fetched (1 : Fin 6) t0_0 (fetch0_1 t0_0) d).trans (funext fun j => fetched_read (dat0 m c) 1 d j j fun _ => rfl)
theorem before_2 (c : Dev nD) (d) : (dat0 m c).before (2 : Fin 6) t0_0 d = kIn m c :=
  ((dat0 m c).before_fetched (2 : Fin 6) t0_0 (fetch0_2 t0_0) d).trans (funext fun j => fetched_read (dat0 m c) 2 d j j fun _ => rfl)
theorem before_3 (c : Dev nD) (d) : (dat0 m c).before (3 : Fin 6) t0_0 d = vIn m c :=
  ((dat0 m c).before_fetched (3 : Fin 6) t0_0 (fetch0_3 t0_0) d).trans (funext fun j => fetched_read (dat0 m c) 3 d j j fun _ => rfl)
theorem before_4 (c : Dev nD) (d) : (dat0 m c).before (4 : Fin 6) t0_0 d = woIn m c :=
  ((dat0 m c).before_fetched (4 : Fin 6) t0_0 (fetch0_4 t0_0) d).trans (funext fun j => fetched_read (dat0 m c) 4 d j j fun _ => rfl)

theorem body_sound (c : Dev nD) :
    bodyPre m c ⊢ wp frame (wpE (defs₀ (F := F)) 𝒱₀ (c : Thread nD τ) none) Set.univ
          (cc0_body (Memref.whole cc0_stg0_0) (Memref.isWhole_whole _) (Memref.whole cc0_stg1_0) (Memref.isWhole_whole _)
            (Memref.whole cc0_stg2_0) (Memref.isWhole_whole _) (Memref.whole cc0_stg3_0) (Memref.isWhole_whole _)
            (Memref.whole cc0_stg4_0) (Memref.isWhole_whole _) (Memref.whole cc0_stg5_0) (Memref.isWhole_whole _)
            (Memref.whole cc0_scratch0) (Memref.isWhole_whole _) (Memref.whole cc0_scratch1) (Memref.isWhole_whole _)
            cc0_scratch2 cc0_scratch3 cc0_scratch4 cc0_scratch5) (fun _ => bodyPost m c) := by
  unfold bodyPre Xk
  iintro ⟨⟨⟨%κ, #HR, Hst, Hpl, #Hop⟩, Hscr, Hprng⟩, HO, H0, H1, H2, H3, H4, ⟨%d5, %f5, -, H5⟩⟩
  ihave H0 := (stg_elim c cc0_stg0_0 _ (xIn m c) (before_0 m c)) $$ H0
  ihave H1 := (stg_elim c cc0_stg1_0 _ (wqIn m c) (before_1 m c)) $$ H1
  ihave H2 := (stg_elim c cc0_stg2_0 _ (kIn m c) (before_2 m c)) $$ H2
  ihave H3 := (stg_elim c cc0_stg3_0 _ (vIn m c) (before_3 m c)) $$ H3
  ihave H4 := (stg_elim c cc0_stg4_0 _ (woIn m c) (before_4 m c)) $$ H4
  ihave HO := (owesAt_elim m c _ (owing c 0 0 0) rfl) $$ HO
  iapply (body_run (parts m) κ c (xIn m c) (wqIn m c) (kIn m c) (vIn m c) (woIn m c) rfl fun _ => bodyPost m c) $$ HR [H0 H1 H2 H3 H4 H5 Hscr HO Hst Hpl]
  · unfold runPre inputs
    isplitl [H0 H1 H2 H3 H4]
    · isplitl [H0]; · iexact H0
      isplitl [H1]; · iexact H1
      isplitl [H2]; · iexact H2
      isplitl [H3] <;> iassumption
    isplitl [H5]; · iexists f5; iexact H5
    isplitl [Hscr]; · iexact Hscr
    isplitl [HO]; · iexact HO
    isplitl [Hst]; · iexact Hst
    isplitl [Hpl]; · iexact Hpl
    iexact Hop
  unfold runPost inputs bodyPost
  iintro ⟨⟨H0, H1, H2, H3, H4⟩, H5, Hscr, HO, Hz⟩
  isplitl [Hz Hscr Hprng]
  · isplitl [Hz]; · iexact Hz
    isplitl [Hscr] <;> iassumption
  isplitl [HO]; · iapply (owesAt_intro m c _ 0 rfl); iexact HO
  isplitl [H0]; · iapply (stg_intro c cc0_stg0_0); iexact H0
  isplitl [H1]; · iapply (stg_intro c cc0_stg1_0); iexact H1
  isplitl [H2]; · iapply (stg_intro c cc0_stg2_0); iexact H2
  isplitl [H3]; · iapply (stg_intro c cc0_stg3_0); iexact H3
  isplitl [H4]; · iapply (stg_intro c cc0_stg4_0); iexact H4
  iapply (stg_intro c cc0_stg5_0); iexact H5

set_option maxRecDepth 40000 in
theorem body_obligation (c : Dev nD) : Pipeline.BodyObligation (dat0 m c) (defs₀ (F := F)) 𝒱₀ () Set.univ := fun t => by
  obtain rfl := fin_N0 t
  rw [bigSep_W0, bigSep_W0]
  simp only [owns_whole_eq]
  exact body_sound m c

/-! ## Entering and leaving -/

theorem hopen (c : Dev nD) : iprop(Tk m c ∗ Pipeline.ownSems0 osem c ∗ levAts L lv) ⊢ (|={Set.univ}=> Xk m c : sProp 𝕄) := by
  unfold Tk Xk Pipeline.ownSems0 rights places opened
  iintro ⟨⟨%κ, #HR, Ho, Hst⟩, Hv, -⟩
  ihave Hc := (show iprop(known (parts m) (out m) κ ∗ bigSep Finset.univ fun x : Fin 4 × Fin 7 => openTok ER (xCell c x.1 x.2))
      ⊢ bigSep Finset.univ fun x : Fin 4 × Fin 7 => iprop(cellInv ER (sched (parts m) (out m)) (κ (xCell c x.1 x.2)) (xCell c x.1 x.2) ∗ openTok ER (xCell c x.1 x.2)) from
    bigSep_with_persistent fun x _ => sep_mono (known_x (parts m) (out m) κ c x.1 x.2) .rfl) $$ [Ho]
  · isplitr; · iexact HR
    iexact Ho
  imod (Rounds.cells_open ER (sched (parts m) (out m)) Finset.univ (fun x : Fin 4 × Fin 7 => xCell c x.1 x.2) (fun x => κ (xCell c x.1 x.2)) (fun _ _ => Set.mem_univ _)) $$ [Hc Hv] with Hat
  · isplitl [Hc]; · iexact Hc
    iexact Hv
  ihave Hat := (Entails.of_eq ((bigSep_sep' _ _ _).trans (by rw [bigSep_univ_prod, bigSep_univ_prod, bigSep_four, bigSep_four]))) $$ Hat
  icases Hat with ⟨Ha, Hr⟩
  imodintro
  iexists κ
  isplitr; · iexact HR
  isplitl [Hst]; · iexact Hst
  isplitl [Ha]; · iexact Ha
  iexact Hr

theorem hin (c : Dev nD) :
    iprop(Pipeline.scopedRest (Pipeline.pin (pcfgs (F := F)) adm 0).spec c ∗ (∃ r, prngReg c r)
        ∗ StableHlo.held (c.tc : Thread nD τ) ∅ (V1 m c) ∗ Xk m c)
      ⊢ (pdats m 0 c).Φ 0 := by
  rw [show (pdats m 0 c).Φ 0 = iprop(Xk m c ∗ scratch c ∗ prng c) from rfl,
    show (Pipeline.scopedRest (Pipeline.pin (pcfgs (F := F)) adm 0).spec c : sProp 𝕄) = _ from scopedRest0_eq c]
  unfold scratch prng
  iintro ⟨Hs, Hp, -, HX⟩
  isplitl [HX]; · iexact HX
  isplitl [Hs] <;> iassumption

theorem hout (c : Dev nD) :
    (pdats m 0 c).Φ (Fin.last (Pipeline.pin (pcfgs (F := F)) adm 0).N)
      ⊢ iprop(Pipeline.scopedRest (Pipeline.pin (pcfgs (F := F)) adm 0).spec c ∗ (∃ r, prngReg c r)
        ∗ StableHlo.held (c.tc : Thread nD τ) ∅ (V2 m (outs m) c) ∗ Pipeline.ownSems0 osem c ∗ Yk c) := by
  rw [show (pdats m 0 c).Φ (Fin.last _) = iprop(zeroed c ∗ scratch c ∗ prng c) from rfl,
    show (Pipeline.scopedRest (Pipeline.pin (pcfgs (F := F)) adm 0).spec c : sProp 𝕄) = _ from scopedRest0_eq c]
  unfold scratch prng zeroed Yk Pipeline.ownSems0
  rw [bigSep_univ_prod, show (StableHlo.held (c.tc : Thread nD τ) ∅ (V2 m (outs m) c) : sProp 𝕄) = iprop(emp) from BI.bigSep_empty]
  iintro ⟨⟨Hb, Hx⟩, Hs, Hp⟩
  isplitl [Hs]; · iexact Hs
  isplitl [Hp]; · iexact Hp
  isplitr; · iempintro
  isplitl [Hx] <;> iassumption

theorem cutD (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  rcases t with ⟨t, ht⟩
  cases t with
  | zero =>
    have h' : 0 < owing c 0 0 0 g i := h
    rcases owing_pos h' with h1 | h1 | h1
    all_goals
      obtain ⟨k, -, rfl⟩ := h1
      refine ⟨by rw [L_tc]; exact Finset.mem_singleton_self _, ?_⟩
      first | (rw [lv_rs]; decide) | (rw [lv_ag]; decide) | exact (by decide : 0 < 1)
  | succ t => exact absurd h (Nat.lt_irrefl 0)

/-! ## The windows' arrays -/

theorem out_last (c : Dev nD) : (dat0 m c).arrAt (5 : Fin 6) cfg0.N = (out m : Res F) := by
  refine (dat0 m c).arrAt_eq_of_after_last (5 : Fin 6) t0_0 (by decide +kernel) (out m : Res F) fun j => ?_
  rfl

theorem arr_first (c : Dev nD) (w : Fin 6) : (dat0 m c).arrAt w 0 = V1 m c (Proc.devRef .tc (Pipeline.arrRef spec0 w)) := rfl

theorem V2_res (c : Dev nD) : V2 m (outs m) c (Proc.devRef .tc main_v15) = (out m : Res F) := by
  unfold V2
  rw [Function.update_self]
  exact outs_res m c

theorem arr_last (c : Dev nD) (w : Fin 6) : (dat0 m c).arrAt w cfg0.N = V2 m (outs m) c (Proc.devRef .tc (Pipeline.arrRef spec0 w)) := by
  have hin (r : Ref sig .tc) (w : Fin 6) (hw : (cfg0.win w).isOut = false) (hr : Pipeline.arrRef spec0 w ∉ ([main_v15] : List (Ref sig .tc))) :
      (dat0 m c).arrAt w cfg0.N = V2 m (outs m) c (Proc.devRef .tc (Pipeline.arrRef spec0 w)) :=
    ((dat0 m c).arrAt_in w hw _).trans (V2_of m (outs m) c _ hr).symm
  match w with
  | 0 => exact hin main_arg0 0 rfl (by decide)
  | 1 => exact hin main_v9 1 rfl (by decide)
  | 2 => exact hin main_arg2 2 rfl (by decide)
  | 3 => exact hin main_arg3 3 rfl (by decide)
  | 4 => exact hin main_v14 4 rfl (by decide)
  | 5 => exact (out_last m c).trans (V2_res m c).symm

theorem kit : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

/-- The unscoped buffers that are no window's array. -/
abbrev others : Finset (DevRef τ sig) := Pipeline.ucRefs τ sig \ Pipeline.arrRefs (τ := τ) spec0

theorem V2_other (c : Dev nD) (b : DevRef τ sig) (hb : b ∈ others \ ∅) : V2 m (outs m) c b = V1 m c b := by
  refine Function.update_of_ne (fun h => ?_) _ _
  rw [Finset.sdiff_empty, h] at hb
  exact (Finset.mem_sdiff.mp hb).2 (Finset.mem_map_of_mem _ (Finset.mem_image_of_mem (Pipeline.arrRef spec0) (Finset.mem_univ (5 : Fin 6))))

theorem stage_low : ∀ (w : Fin 6) (s : Fin (cfg0.win w).nbuf), semLev (.dma ((cfg0.win w).sem s)) ≤ 0 := by decide +kernel

set_option backward.isDefEq.respectTransparency.types false in
def reg : RegionSeg (pcfgs (F := F)) adm (pdats m) () defs₀ 𝒱₀ L lv 0 :=
  RegionSeg.ofTalk (pcfgs (F := F)) adm (pdats m) () defs₀ 𝒱₀ L lv 0 osem ownSemFacts
    ∅ others (Finset.empty_subset _) kit rfl (fun c => (body_obligation m c).loose)
    (fun _ => 0) (fun c => owing c 0 0 0) (fun c => (zero_add _).symm) (fun _ => rfl) (fun _ => rfl)
    (fun c w => (dat0 m c).share_full (fun _ => rfl) w)
    (V1 m) (V2 m (outs m)) (fun c b hb => V2_other m c b hb)
    (Tk m) Yk (Xk m) Yk (hopen m) (hin m) (hout m)
    (fun c => by iintro H; imodintro; iexact H)
    (fun _ => 0)
    ⟨fun c w s => by rw [L_tc]; exact Finset.mem_singleton_self _, fun c w s => stage_low w s, fun c t g i h => cutD m c t g i h⟩
    (fun _ => iprop(emp))
    (fun c w => arr_first m c w) (fun c w => arr_last m c w)

end Cert.Proof

end
-- ==== Proof.Launch.lean ====
/-
The launch: every semaphore's invariant made, the tokens dealt to the devices that use them, the credit of the dues, and
the run of @main on the eight devices.
-/
module

public import proofs.«01_k».proof.Proof.Region

@[expose] public section

noncomputable section

namespace Cert.Proof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Ring

variable {F : FTy → Type} [FloatOps F] [Named F]

local notation "𝕄" => MT nD τ sig Unit (Elt F) ℕ UU ℕ

variable (X : Dev nD → Part F) (κ : GSem nD τ sig → ℕ)
open Idealize.ShloMosaic.Pipeline (Dat Seg HostSeg RegionSeg)

variable (m : (ℓ : Loc nD τ sig) → Buf (Elt F) ℓ)

/-! ## The semaphores and the tokens -/

def barEmb : Dev nD ↪ GSem nD τ sig := ⟨barCell, fun _ _ h => barCell_inj h⟩
def xEmb : Dev nD × Fin 4 × Fin 7 ↪ GSem nD τ sig :=
  ⟨fun x => xCell x.1 x.2.1 x.2.2, fun _ _ h => by
    obtain ⟨h1, h2, h3⟩ := xCell_inj h
    exact Prod.ext h1 (Prod.ext h2 h3)⟩
abbrev barCells : Finset (GSem nD τ sig) := Finset.univ.map barEmb
abbrev xCells : Finset (GSem nD τ sig) := Finset.univ.map xEmb

theorem disjoint_cells : Disjoint barCells xCells := by
  rw [Finset.disjoint_left]
  rintro g h₁ h₂
  obtain ⟨c, -, rfl⟩ := Finset.mem_map.mp h₁
  obtain ⟨x, -, h⟩ := Finset.mem_map.mp h₂
  exact xCell_ne_bar h

theorem over_bar {M : Type} [URA M] (Φ : GSem nD τ sig → sProp M) : bigSep barCells Φ = bigSep Finset.univ fun c : Dev nD => Φ (barCell c) := bigSep_map barEmb
theorem over_x {M : Type} [URA M] (Φ : GSem nD τ sig → sProp M) :
    bigSep xCells Φ = bigSep Finset.univ fun x : Dev nD × Fin 4 × Fin 7 => Φ (xCell x.1 x.2.1 x.2.2) := bigSep_map xEmb

/-- A barrier's seven tokens, and the one of each transfer semaphore. -/
def barTok : Dev nD × Fin 7 ↪ GSem nD τ sig × ℕ × Fin 7 :=
  ⟨fun x => (barCell x.1, 0, x.2), fun _ _ h => Prod.ext (barCell_inj (congrArg Prod.fst h)) (congrArg (fun t => t.2.2) h)⟩
def xTok : Dev nD × Fin 4 × Fin 7 ↪ GSem nD τ sig × ℕ × Fin 7 :=
  ⟨fun x => (xEmb x, 0, 0), fun _ _ h => xEmb.injective (congrArg Prod.fst h)⟩
abbrev barToks : Finset (GSem nD τ sig × ℕ × Fin 7) := Finset.univ.map barTok
abbrev xToks : Finset (GSem nD τ sig × ℕ × Fin 7) := Finset.univ.map xTok

theorem disjoint_toks : Disjoint barToks xToks := by
  rw [Finset.disjoint_left]
  rintro t h₁ h₂
  obtain ⟨x, -, rfl⟩ := Finset.mem_map.mp h₁
  obtain ⟨y, -, h⟩ := Finset.mem_map.mp h₂
  exact xCell_ne_bar (congrArg Prod.fst h)

abbrev toks : Finset (GSem nD τ sig × ℕ × Fin 7) := barToks ∪ xToks

def u₀ : UU :=
  (initOf (Pipeline.cells (Pipeline.pin (pcfgs (F := F)) adm) cellOf_inj) (Pipeline.launchToks (Pipeline.pin (pcfgs (F := F)) adm) cellOf_inj),
    launchOf barCells xCells toks)

/-- A resource held on device 0 alone. -/
def onFirst (R : sProp 𝕄) (c : Dev nD) : sProp 𝕄 := if c = 0 then R else iprop(emp)
omit [FloatOps F] [Named F] in
theorem bigSep_onFirst (R : sProp 𝕄) : bigSep Finset.univ (onFirst R) = R := by
  rw [bigSep_univ_at _ (0 : Dev nD), bigSep_congr (s := Finset.univ.erase 0) (Ψ := fun _ => (BI.emp : sProp 𝕄))
      fun c hc => by unfold onFirst; rw [if_neg (Finset.ne_of_mem_erase hc)]; rfl, BI.bigSep_emp_const]
  unfold onFirst; rw [if_pos rfl]
  exact BI.equiv_iff.mp sep_emp

abbrev rounds₀ : sProp 𝕄 := BI.own (ER (launchOf barCells xCells toks))

/-! ## Dealing -/

/-- The tokens of the duties a device pays. -/
def tokens (c : Dev nD) : sProp 𝕄 :=
  iprop((bigSep Finset.univ fun k => dutyTok ER (barCell (peer k c)) 0 k.rev)
    ∗ (bigSep Finset.univ fun k => dutyTok ER (xCell c 0 k) 0 0)
    ∗ (bigSep Finset.univ fun k => dutyTok ER (xCell (peer k c) 1 k) 0 0)
    ∗ (bigSep Finset.univ fun k => dutyTok ER (xCell c 2 k) 0 0)
    ∗ (bigSep Finset.univ fun k => dutyTok ER (xCell (peer k c) 3 k) 0 0))

/-- Of a family over devices and steps, each device may as well hold step `k`'s of the device `k + 1` places on. -/
theorem deal_on {M : Type} [URA M] (Φ : Dev nD → Fin 7 → sProp M) :
    (bigSep Finset.univ fun c => bigSep Finset.univ fun k => Φ c k) = bigSep Finset.univ fun c => bigSep Finset.univ fun k => Φ (peer k c) k := by
  rw [BI.bigSep_univ_comm, BI.bigSep_univ_comm fun c k => Φ (peer k c) k]
  exact bigSep_congr fun k _ => bigSep_univ_equiv (peerEquiv k) fun c => Φ c k

omit [FloatOps F] [Named F] in
theorem toks_deal : bigSep toks (fun t => (dutyTok ER t.1 t.2.1 t.2.2 : sProp 𝕄)) = bigSep Finset.univ fun c : Dev nD => tokens c := by
  unfold tokens
  rw [bigSep_sep', bigSep_sep', bigSep_sep', bigSep_sep',
    ← deal_on fun c k => (dutyTok ER (barCell c) 0 k.rev : sProp 𝕄),
    ← deal_on fun c k => (dutyTok ER (xCell c 1 k) 0 0 : sProp 𝕄), ← deal_on fun c k => (dutyTok ER (xCell c 3 k) 0 0 : sProp 𝕄),
    BI.bigSep_union disjoint_toks, bigSep_map, bigSep_map, bigSep_univ_prod, bigSep_univ_prod]
  refine congrArg₂ (fun P Q => iprop(P ∗ Q)) (bigSep_congr fun c _ => bigSep_univ_equiv (Fin.revPerm (n := 7)) _) ?_
  rw [← bigSep_sep', ← bigSep_sep', ← bigSep_sep']
  exact bigSep_congr fun c _ => by rw [bigSep_univ_prod, bigSep_four]; rfl

omit [FloatOps F] [Named F] in
theorem rights_deal : bigSep xCells (fun g => (openTok ER g : sProp 𝕄)) = bigSep Finset.univ fun c : Dev nD => rights c := by
  rw [bigSep_map, bigSep_univ_prod]; rfl

/-! ## The credit of the dues -/

theorem tally_at (f : Fin 7 → GSem nD τ sig) (n : ℕ) (g : GSem nD τ sig) :
    (∑ k, tallyAt (f k) () n : CellTallies nD τ sig Unit) g () = ∑ k, if g = f k then n else 0 := by
  rw [Finset.sum_apply, Finsupp.finset_sum_apply]
  exact Finset.sum_congr rfl fun k _ => by rw [tallyAt_apply]; simp

theorem owing_at (d : Dev nD) (g : GSem nD τ sig) :
    owing d 0 0 0 g () = (∑ k, if g = barCell (peer k d) then 1 else 0) + (∑ k, if g = xCell (peer k d) 1 k then N else 0)
      + ∑ k, if g = xCell (peer k d) 3 k then N else 0 := by
  unfold owing
  rw [show stepsFrom 0 = Finset.univ from by decide, Pi.add_apply, Finsupp.add_apply, Pi.add_apply, Finsupp.add_apply,
    tally_at, tally_at, tally_at]

/-- Over all devices, one has `c` as its peer `k`. -/
theorem sum_peer (f : Dev nD → Fin 7 → GSem nD τ sig) (g : GSem nD τ sig) (n : ℕ) :
    (∑ d : Dev nD, ∑ k, if g = f (peer k d) k then n else 0) = ∑ k, ∑ d : Dev nD, if g = f d k then n else 0 := by
  rw [Finset.sum_comm]
  exact Finset.sum_congr rfl fun k _ => Equiv.sum_comp (peerEquiv k) fun d => if g = f d k then n else 0

theorem dues_at (g : GSem nD τ sig) :
    (∑ d : Dev nD, owing d 0 0 0 g ()) = (∑ k : Fin 7, ∑ d : Dev nD, if g = barCell d then 1 else 0)
      + (∑ k, ∑ d : Dev nD, if g = xCell d 1 k then N else 0) + ∑ k, ∑ d : Dev nD, if g = xCell d 3 k then N else 0 := by
  rw [Finset.sum_congr rfl fun d _ => owing_at d g, Finset.sum_add_distrib, Finset.sum_add_distrib, sum_peer fun d _ => barCell d,
    sum_peer fun d k => xCell d 1 k, sum_peer fun d k => xCell d 3 k]

theorem bar_bar (c d : Dev nD) : barCell c = barCell d ↔ c = d := ⟨barCell_inj, congrArg _⟩
theorem bar_x (c d : Dev nD) (a : Fin 4) (k : Fin 7) : ¬ barCell c = xCell d a k := fun h => xCell_ne_bar h.symm
theorem x_bar (c d : Dev nD) (a : Fin 4) (k : Fin 7) : ¬ xCell d a k = barCell c := xCell_ne_bar
theorem x_x (c d : Dev nD) (a b : Fin 4) (k j : Fin 7) : xCell c a k = xCell d b j ↔ (c = d ∧ a = b) ∧ k = j :=
  ⟨fun h => ⟨⟨(xCell_inj h).1, (xCell_inj h).2.1⟩, (xCell_inj h).2.2⟩, fun ⟨⟨h1, h2⟩, h3⟩ => by rw [h1, h2, h3]⟩

theorem dues_bar (c : Dev nD) : (∑ d : Dev nD, owing d 0 0 0 (barCell c) ()) = 7 := by
  rw [dues_at]; simp only [bar_bar, bar_x, if_false, Finset.sum_ite_eq, Finset.mem_univ, if_true, Finset.sum_const_zero, Nat.add_zero]
  decide
theorem dues_rs (c : Dev nD) (k : Fin 7) : (∑ d : Dev nD, owing d 0 0 0 (xCell c 1 k) ()) = N := by
  rw [dues_at]
  simp only [x_bar, x_x, ite_and, if_false, Finset.sum_const_zero, Nat.zero_add, Nat.add_zero, if_true,
    show ¬ (1 : Fin 4) = 3 from by decide, Finset.sum_ite_eq, Finset.mem_univ, Finset.sum_ite_irrel]
theorem dues_ag (c : Dev nD) (k : Fin 7) : (∑ d : Dev nD, owing d 0 0 0 (xCell c 3 k) ()) = N := by
  rw [dues_at]
  simp only [x_bar, x_x, ite_and, if_false, Finset.sum_const_zero, Nat.zero_add, Nat.add_zero, if_true,
    show ¬ (3 : Fin 4) = 1 from by decide, Finset.sum_ite_eq, Finset.mem_univ, Finset.sum_ite_irrel]

theorem launch_at (g : GSem nD τ sig) (n : ℕ) (h : (∑ d : Dev nD, owing d 0 0 0 g ()) = n) :
    tallyOn g (launchCredit (Pipeline.owing fun d => owing d 0 0 0) 0 g) = (tallyAt g () n : CellTallies nD τ sig Unit) := by
  unfold tallyAt; refine congrArg _ (Finsupp.ext fun u => ?_); cases u
  rw [Pipeline.launchCredit_owing, Finsupp.single_eq_same, h]

/-- The semaphores a device is owed units at: its barrier, and those of the copies it receives. -/
def owedSem : Unit ⊕ Fin 7 ⊕ Fin 7 ↪ SemLoc sig :=
  ⟨Sum.elim (fun _ => .reg barS) (Sum.elim (fun k => .dma (xs 1 k)) fun k => .dma (xs 3 k)), by decide +kernel⟩

def credits (c : Dev nD) : sProp 𝕄 :=
  iprop(cred (tallyAt (barCell c) () 7) ∗ (bigSep Finset.univ fun k => cred (tallyAt (xCell c 1 k) () N))
    ∗ (bigSep Finset.univ fun k => cred (tallyAt (xCell c 3 k) () N)))

omit [FloatOps F] [Named F] in
theorem credits_intro (c : Dev nD) : (Pipeline.launchCred (fun d => owing d 0 0 0) c : sProp 𝕄) ⊢ credits c := by
  unfold Pipeline.launchCred credits
  refine BIBase.Entails.trans (BI.bigSep_subset (Finset.subset_univ (Finset.univ.map owedSem))) (Entails.of_eq ?_)
  rw [bigSep_map, bigSep_univ_sum, bigSep_univ_sum, Finset.univ_unique, bigSep_singleton]
  refine congrArg₂ (fun P Q => iprop(P ∗ Q)) (congrArg _ (launch_at _ 7 (dues_bar c))) (congrArg₂ (fun P Q => iprop(P ∗ Q)) ?_ ?_)
  · exact bigSep_congr fun k _ => congrArg _ (launch_at _ N (dues_rs c k))
  · exact bigSep_congr fun k _ => congrArg _ (launch_at _ N (dues_ag c k))

/-! ## The launch -/

/-- What rides along before the kernel and after it. -/
def rest (j : Fin 2) (c : Dev nD) : sProp 𝕄 := match j with
  | 0 => iprop(Tk m c ∗ prng c ∗ owed c (owing c 0 0 0))
  | 1 => iprop(semVal (barCell c) 0 ∗ owed c 0)

/-- What each device gets of the semaphores' ghost state, and the rest of what it starts with. -/
def linear (c : Dev nD) : sProp 𝕄 := iprop(rights c ∗ tokens c ∗ atPos ER (barCell c) 0 ∅ 0)
def bundle (c : Dev nD) : sProp 𝕄 :=
  iprop(StableHlo.held (c : Thread nD τ) (Pipeline.ucRefs τ sig) (V0 m c) ∗ credits c ∗ owed c (owing c 0 0 0) ∗ prng c)
abbrev T₀ (c : Dev nD) : sProp 𝕄 := iprop(StableHlo.held (c : Thread nD τ) (Pipeline.ucRefs τ sig) (V0 m c) ∗ rest m 0 c)
abbrev Tₙ (c : Dev nD) : sProp 𝕄 := iprop(StableHlo.held (c : Thread nD τ) (Pipeline.ucRefs τ sig) (V2 m (outs m) c) ∗ semVal (barCell c) 0)

theorem T₀_intro (κ : GSem nD τ sig → ℕ) (c : Dev nD) : iprop(known (parts m) (out m) κ ∗ (linear c ∗ bundle m c)) ⊢ T₀ m c := by
  unfold linear bundle T₀ rest Tk start tokens credits
  iintro ⟨#HR, ⟨Hr, ⟨Ht, H0, H1, H2, H3⟩, Hat⟩, Hh, ⟨Hc, Hc1, Hc3⟩, HO, Hp⟩
  isplitl [Hh]; · iexact Hh
  isplitr [Hp HO]
  · iexists κ
    isplitr; · iexact HR
    isplitl [Hr]; · iexact Hr
    isplitl [Ht]; · iexact Ht
    isplitl [H0]; · iexact H0
    isplitl [H1]; · iexact H1
    isplitl [H2]; · iexact H2
    isplitl [H3]; · iexact H3
    isplitl [Hat]; · iexact Hat
    isplitl [Hc]; · iexact Hc
    isplitl [Hc1] <;> iassumption
  isplitl [Hp] <;> iassumption

omit [FloatOps F] [Named F] in
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

variable (ρ : Dev nD → PrngReg)

/-- What the launch hands device `c`. -/
abbrev given (c : Dev nD) : sProp 𝕄 :=
  iprop(unscopedBufs c (fun b => m ((c : Thread nD τ).loc b)) ∗ unscopedSems0 c
    ∗ owes (c : Thread nD τ) (owing c 0 0 0) ∅ ∗ Pipeline.launchCred (fun d => owing d 0 0 0) c ∗ prngReg c (ρ c) ∗ onFirst rounds₀ c)

omit [FloatOps F] [Named F] in
theorem given_split (c : Dev nD) : given m ρ c ⊢ iprop(bundle m c ∗ semVal (barCell c) 0 ∗ onFirst rounds₀ c) := by
  unfold given bundle owed prng
  rw [unscopedSems0_eq, ← Pipeline.unscopedBufs_held (Ix := Unit) (Name := ℕ) (U := UU) (Lvl := ℕ) c (V0 m c)]
  iintro ⟨Hh, Hs, HO, Hcr, Hp, HG⟩
  ihave Hc := (credits_intro (F := F) c) $$ Hcr
  isplitl [Hh Hc HO Hp]
  · isplitl [Hh]; · iexact Hh
    isplitl [Hc]; · iexact Hc
    isplitl [HO]; · iexists ∅; iexact HO
    iexists (ρ c); iexact Hp
  isplitl [Hs] <;> iassumption

theorem init : iprop((bigSep Finset.univ fun c : Dev nD => given m ρ c) ∗ levAts L lv) ⊢ (|={Set.univ}=> bigSep Finset.univ (T₀ m) : sProp 𝕄) := by
  iintro ⟨H, #Hl⟩
  ihave H := (show (bigSep Finset.univ fun c : Dev nD => given m ρ c)
      ⊢ (bigSep Finset.univ fun c : Dev nD => iprop(bundle m c ∗ semVal (barCell c) 0 ∗ onFirst (F := F) rounds₀ c) : sProp 𝕄) from
    bigSep_mono fun c _ => given_split m ρ c) $$ H
  ihave H := (Entails.of_eq ((bigSep_sep' _ _ _).trans (congrArg (fun P => iprop((bigSep Finset.univ fun c => bundle m c) ∗ P)) (bigSep_sep' _ _ _)))) $$ H
  icases H with ⟨HB, Hv, HG⟩
  ihave Hu := (Entails.of_eq (bigSep_onFirst (F := F) rounds₀)) $$ HG
  ihave Hv := (Entails.of_eq (over_bar fun g => (semVal g 0 : sProp 𝕄)).symm) $$ Hv
  imod (Rounds.fund_launch ER (sched (parts m) (out m)) disjoint_cells (fun g _ h => h) toks) $$ [Hv Hu] with ⟨%κ, -, Hinv, Hr, Hat, Hopen, Htok⟩
  · isplitl [Hv] <;> iassumption
  ihave Hinv := (Entails.of_eq ((BI.bigSep_union disjoint_cells).trans
    (congrArg₂ (fun P Q : sProp 𝕄 => iprop(P ∗ Q)) (over_bar _) (over_x _)))) $$ Hinv
  icases Hinv with ⟨#Hib, #Hix⟩
  ihave Hr := (Entails.of_eq (over_bar fun g => (reached ER g 0 : sProp 𝕄))) $$ Hr
  ihave #Hr := Hr
  ihave Hat := (Entails.of_eq (over_bar fun g => (atPos ER g 0 ∅ 0 : sProp 𝕄))) $$ Hat
  ihave Hopen := (Entails.of_eq (rights_deal (F := F))) $$ Hopen
  ihave Htok := (Entails.of_eq (toks_deal (F := F))) $$ Htok
  imodintro
  iapply (bigSep_with_persistent (R := known (parts m) (out m) κ) (Φ := fun c => iprop(linear c ∗ bundle m c)) fun c _ => T₀_intro m κ c)
  isplitr
  · unfold known
    isplitr; · iexact Hib
    isplitr; · iexact Hix
    isplitr; · iexact Hr
    iexact Hl
  unfold linear
  rw [bigSep_sep', bigSep_sep', bigSep_sep']
  isplitr [HB]
  · isplitl [Hopen]; · iexact Hopen
    isplitl [Htok] <;> iassumption
  · iexact HB

/-! ## The run -/

theorem arrs_sub : Pipeline.arrRefs (τ := τ) spec0 ⊆ Pipeline.ucRefs τ sig := Pipeline.arrRefs_sub_ucRefs spec0 (by decide +kernel)

theorem reg_pre (c : Dev nD) : iprop(StableHlo.held (c : Thread nD τ) (Pipeline.ucRefs τ sig) (V1 m c) ∗ rest m 0 c) ⊢ (reg m).pre c := by
  show _ ⊢ iprop(StableHlo.held (c.tc : Thread nD τ) (Pipeline.arrRefs (τ := τ) spec0) (V1 m c) ∗ (∃ r, prngReg c r)
    ∗ (StableHlo.held (c.tc : Thread nD τ) others (V1 m c) ∗ emp) ∗ Tk m c ∗ ∃ Wd, owes (c : Thread nD τ) (0 + owing c 0 0 0) Wd)
  rw [StableHlo.held_sub_split (c.tc : Thread nD τ) arrs_sub (V1 m c), zero_add]
  unfold rest prng owed
  iintro ⟨⟨Ha, Ho⟩, HT, Hp, HO⟩
  isplitl [Ha]; · iexact Ha
  isplitl [Hp]; · iexact Hp
  isplitl [Ho]
  · isplitl [Ho]; · iexact Ho
    iempintro
  isplitl [HT] <;> iassumption

theorem reg_post (c : Dev nD) : (reg m).post c
    ⊢ iprop(Tₙ m c ∗ ∃ W, owes (c : Thread nD τ) (0 : CellTallies nD τ sig Unit) W) := by
  show iprop(StableHlo.held (c.tc : Thread nD τ) (Pipeline.arrRefs (τ := τ) spec0) (V2 m (outs m) c) ∗ (∃ r, prngReg c r)
    ∗ (StableHlo.held (c.tc : Thread nD τ) others (V2 m (outs m) c) ∗ emp) ∗ Yk c ∗ ∃ Wd, owes (c : Thread nD τ) (0 : CellTallies nD τ sig Unit) Wd) ⊢ _
  unfold Tₙ Yk
  rw [StableHlo.held_sub_split (c.tc : Thread nD τ) arrs_sub (V2 m (outs m) c)]
  iintro ⟨Ha, -, ⟨Ho, -⟩, Hb, HO⟩
  isplitr [HO]
  · isplitl [Ha Ho]
    · isplitl [Ha] <;> iassumption
    iexact Hb
  iexact HO

theorem unscoped_eq : ∀ sm : SemLoc sig, sm.isScoped .tc = false → sm = .reg barS := by decide +kernel

/-- What a final state holds: each argument as launched, the result, and the barrier's counter at zero. -/
def Ends (s : MemSt nD τ sig (Elt F)) (c : Dev nD) : Prop :=
  (s.mem ((c.tc : Thread nD τ).loc main_arg0) = m ((c.tc : Thread nD τ).loc main_arg0)
    ∧ s.mem ((c.tc : Thread nD τ).loc main_arg1) = m ((c.tc : Thread nD τ).loc main_arg1)
    ∧ s.mem ((c.tc : Thread nD τ).loc main_arg2) = m ((c.tc : Thread nD τ).loc main_arg2)
    ∧ s.mem ((c.tc : Thread nD τ).loc main_arg3) = m ((c.tc : Thread nD τ).loc main_arg3)
    ∧ s.mem ((c.tc : Thread nD τ).loc main_arg4) = m ((c.tc : Thread nD τ).loc main_arg4))
  ∧ s.mem ((c.tc : Thread nD τ).loc main_v15) = (out m : Res F)

theorem read_at (c : Dev nD) (s : MemSt nD τ sig (Elt F)) (r : Ref sig .tc) (hr : r.isScoped = false)
    (h : ∀ b ∈ Pipeline.ucRefs τ sig, s.mem ((c : Thread nD τ).1, b) = V2 m (outs m) c b) :
    s.mem ((c.tc : Thread nD τ).loc r) = V2 m (outs m) c (Proc.devRef .tc r) :=
  h (Proc.devRef .tc r) (Finset.mem_filter.mpr ⟨StableHlo.devRef_mem_tcRefs r, by simpa using hr⟩)

set_option backward.isDefEq.respectTransparency.types false in
/-- The run of @main on the eight devices. -/
theorem run_main : θ_run defs (onTc (τ := τ) (main (F := F))) ⟨m, fun _ => 0, ρ⟩
    (fun r => (∀ c : Dev nD, Ends m r.2 c) ∧ r.2.sem = fun _ => 0) := by
  refine Pipeline.θ_run_regions_kit_dev_sems (pcfgs (F := F)) adm (pdats m) () cellOf_inj EP defs₀ 𝒱₀ L lv m ρ main
    (segs m 𝒱₀ L lv (rest m) () (pdats m) (reg m))
    (fun c Q => by
      rewrite [main_chain c, Seg.run_eq_chain,
        show (segs m 𝒱₀ L lv (rest m) () (pdats m) (reg m) c).map Seg.prog = [
          StableHlo.seq (hostOps0 c),
          Prog.lift (.customCall (Pipeline.entry 0) ()) ] from rfl]
      dsimp (config := { failIfUnchanged := false }) only
      exact .rfl)
    (fun c => by simp only [segs, Seg.pipes_host, Seg.pipes_region, Seg.pipes_nil]; decide)
    (fun c => owing c 0 0 0) L_of_ne (onFirst rounds₀) u₀
    (by
      unfold u₀
      iintro Hu
      ihave H := (ownU_pair _ _) $$ Hu
      icases H with ⟨HP, HX⟩
      imodintro
      isplitl [HP]; · iexact HP
      rw [bigSep_onFirst]; iexact HX)
    (T₀ := T₀ m) (Tₙ := Tₙ m)
    (hch := fun c => ⟨.rfl, reg_pre m c, reg_post m c⟩)
    (hinit := init m ρ)
    (QY := fun c s => Ends m s c ∧ s.sem (barCell c) = 0)
    (hfin := fun c s' => ?_)
    (hQ := fun s h hs => ⟨fun c => (h c).1, sem_eq_zero hs fun c sm hsm => by
      obtain rfl := unscoped_eq sm hsm
      exact (h c).2⟩)
  dsimp only [Tₙ]
  unfold StableHlo.held
  iintro ⟨⟨Hh, Hb⟩, HSI⟩
  icombine HSI Hb gives %hb
  ihave Hr := (pointsTo_read_all (Pipeline.ucRefs τ sig) (fun b => ((c : Thread nD τ).1, b)) (V2 m (outs m) c) s') $$ [Hh HSI]
  · isplitl [Hh] <;> iassumption
  icases Hr with ⟨%h, HSI⟩
  imodintro
  isplitr
  · ipureintro
    exact ⟨⟨⟨(read_at m c s'.mem main_arg0 (by decide) h).trans (V2_main_arg0 m (outs m) c),
      (read_at m c s'.mem main_arg1 (by decide) h).trans (V2_main_arg1 m (outs m) c),
      (read_at m c s'.mem main_arg2 (by decide) h).trans (V2_main_arg2 m (outs m) c),
      (read_at m c s'.mem main_arg3 (by decide) h).trans (V2_main_arg3 m (outs m) c),
      (read_at m c s'.mem main_arg4 (by decide) h).trans (V2_main_arg4 m (outs m) c)⟩,
      (read_at m c s'.mem main_v15 (by decide) h).trans (V2_res m c)⟩, by simpa using hb⟩
  · iexact HSI

end Cert.Proof

end
-- ==== Proof.Same.lean ====
/-
Read at machine words, with each named constant its own word, the program that names its constants is the program that
does not: part by part, then whole. So the first one's run is the second one's.
-/
module

public import proofs.«01_k».proof.Defs
public import proofs.«01_k».proof.Proof.Launch

@[expose] public section

noncomputable section

namespace Cert.Proof

open Idealize.ShloMosaic

/-- A named constant read as the word it was printed with. -/
@[reducible] def namedWord : Named Bits where
  named _ _ {φ} b := FloatOps.ofBits φ b

attribute [local instance] namedWord

variable [Cert.Kernel.Facts] [Cert.KernelIdeal.Facts]

set_option maxHeartbeats 4000000 in
theorem parts_same :
    Cert.KernelIdeal.k0_part1 (F := Bits) = Cert.Kernel.k0_part1 (F := Bits)
    ∧ Cert.KernelIdeal.k0_part2 (F := Bits) = Cert.Kernel.k0_part2 (F := Bits)
    ∧ Cert.KernelIdeal.k0_part3 (F := Bits) = Cert.Kernel.k0_part3 (F := Bits)
    ∧ Cert.KernelIdeal.k0_part4 (F := Bits) = Cert.Kernel.k0_part4 (F := Bits)
    ∧ Cert.KernelIdeal.k0_part5 (F := Bits) = Cert.Kernel.k0_part5 (F := Bits)
    ∧ Cert.KernelIdeal.k0_part6 (F := Bits) = Cert.Kernel.k0_part6 (F := Bits)
    ∧ Cert.KernelIdeal.k0_part7 (F := Bits) = Cert.Kernel.k0_part7 (F := Bits)
    ∧ Cert.KernelIdeal.k0_part8 (F := Bits) = Cert.Kernel.k0_part8 (F := Bits)
    ∧ Cert.KernelIdeal.k0_part9 (F := Bits) = Cert.Kernel.k0_part9 (F := Bits)
    ∧ Cert.KernelIdeal.k0_part10 (F := Bits) = Cert.Kernel.k0_part10 (F := Bits)
    ∧ Cert.KernelIdeal.k0_part11 (F := Bits) = Cert.Kernel.k0_part11 (F := Bits)
    ∧ Cert.KernelIdeal.k0_part12 (F := Bits) = Cert.Kernel.k0_part12 (F := Bits)
    ∧ Cert.KernelIdeal.k0_part13 (F := Bits) = Cert.Kernel.k0_part13 (F := Bits)
    ∧ Cert.KernelIdeal.k0_part14 (F := Bits) = Cert.Kernel.k0_part14 (F := Bits)
    ∧ Cert.KernelIdeal.k0_part15 (F := Bits) = Cert.Kernel.k0_part15 (F := Bits)
    ∧ Cert.KernelIdeal.k0_part16 (F := Bits) = Cert.Kernel.k0_part16 (F := Bits)
    ∧ Cert.KernelIdeal.k0_part17 (F := Bits) = Cert.Kernel.k0_part17 (F := Bits)
    ∧ Cert.KernelIdeal.k0_part18 (F := Bits) = Cert.Kernel.k0_part18 (F := Bits)
    ∧ Cert.KernelIdeal.k0_part19 (F := Bits) = Cert.Kernel.k0_part19 (F := Bits)
    ∧ Cert.KernelIdeal.k0_part20 (F := Bits) = Cert.Kernel.k0_part20 (F := Bits) := by
  refine ⟨?_, ?_, ?_, ?_, ?_, ?_, ?_, ?_, ?_, ?_, ?_, ?_, ?_, ?_, ?_, ?_, ?_, ?_, ?_, ?_⟩ <;>
    (delta Cert.KernelIdeal.k0_part1 Cert.Kernel.k0_part1 Cert.KernelIdeal.k0_part2 Cert.Kernel.k0_part2 Cert.KernelIdeal.k0_part3 Cert.Kernel.k0_part3 Cert.KernelIdeal.k0_part4 Cert.Kernel.k0_part4 Cert.KernelIdeal.k0_part5 Cert.Kernel.k0_part5 Cert.KernelIdeal.k0_part6 Cert.Kernel.k0_part6 Cert.KernelIdeal.k0_part7 Cert.Kernel.k0_part7 Cert.KernelIdeal.k0_part8 Cert.Kernel.k0_part8 Cert.KernelIdeal.k0_part9 Cert.Kernel.k0_part9 Cert.KernelIdeal.k0_part10 Cert.Kernel.k0_part10 Cert.KernelIdeal.k0_part11 Cert.Kernel.k0_part11 Cert.KernelIdeal.k0_part12 Cert.Kernel.k0_part12 Cert.KernelIdeal.k0_part13 Cert.Kernel.k0_part13 Cert.KernelIdeal.k0_part14 Cert.Kernel.k0_part14 Cert.KernelIdeal.k0_part15 Cert.Kernel.k0_part15 Cert.KernelIdeal.k0_part16 Cert.Kernel.k0_part16 Cert.KernelIdeal.k0_part17 Cert.Kernel.k0_part17 Cert.KernelIdeal.k0_part18 Cert.Kernel.k0_part18 Cert.KernelIdeal.k0_part19 Cert.Kernel.k0_part19 Cert.KernelIdeal.k0_part20 Cert.Kernel.k0_part20; rfl)

set_option maxHeartbeats 4000000 in
theorem body_same : Cert.KernelIdeal.cc0_body (F := Bits) = Cert.Kernel.cc0_body (F := Bits) := by
  obtain ⟨h1, h2, h3, h4, h5, h6, h7, h8, h9, h10, h11, h12, h13, h14, h15, h16, h17, h18, h19, h20⟩ := parts_same
  delta Cert.KernelIdeal.cc0_body Cert.Kernel.cc0_body
  rw [h1, h2, h3, h4, h5, h6, h7, h8, h9, h10, h11, h12, h13, h14, h15, h16, h17, h18, h19, h20]
  rfl

set_option maxHeartbeats 4000000 in
theorem bodies_same : Cert.KernelIdeal.defs₀ (F := Bits) = Cert.Kernel.defs₀ (F := Bits) := by
  delta Cert.KernelIdeal.defs₀ Cert.Kernel.defs₀
  rw [body_same]
  refine congrArg Defs.onTc (funext fun l => funext fun x => ?_)
  obtain rfl : l = (0 : Fin 1) := Fin.eq_zero l
  obtain ⟨t, s⟩ := x
  rfl

set_option maxHeartbeats 4000000 in
theorem defs_same : Cert.KernelIdeal.defs (F := Bits) = Cert.Kernel.defs (F := Bits) := by
  delta Cert.KernelIdeal.defs Cert.Kernel.defs
  rw [bodies_same]
  rfl

set_option maxHeartbeats 4000000 in
theorem main_same : Cert.KernelIdeal.main (F := Bits) = Cert.Kernel.main (F := Bits) := by
  delta Cert.KernelIdeal.main Cert.Kernel.main
  rfl

end Cert.Proof

end
-- ==== Proof.Frames.lean ====
/-
The three programs end, with their arguments as they were and every counter at zero.
-/
module

public import proofs.«01_k».proof.Defs
public import proofs.«01_k».proof.Proof.Gen.Kernel
public import proofs.«01_k».proof.Proof.Gen.ReferenceIdeal.Run
public import proofs.«01_k».proof.Proof.Same

@[expose] public section

noncomputable section

namespace Cert.Proof

open Idealize.ShloMosaic Idealize.SL.Sem

attribute [local instance] namedWord

/-- Read at machine words, the run of the program that names its constants is the kernel's. -/
theorem frame_kernel : Cert.quiescent_Kernel (hKernel := Cert.Kernel.Gen.facts) := fun m ρ _ => by
  have h := run_main (F := Bits) m ρ
  rw [defs_same, main_same] at h
  exact (θ_run (Cert.Kernel.defs (F := Bits)) _ _).mono (fun r h => ⟨fun c => (h.1 c).1, h.2⟩) h

theorem frame_ideal : Cert.quiescent_KernelIdeal (hKernelIdeal := Cert.KernelIdeal.Gen.facts) := fun m ρ _ =>
  (θ_run Cert.KernelIdeal.defs _ _).mono (fun r h => ⟨fun c => (h.1 c).1, h.2⟩) (run_main (F := Ideal) m ρ)

/-- The reference's run is its host operations'; it has no semaphore. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "mask" .f32 0xCE6E6B28#32 ⊥ rfl

end Cert.Proof

end
-- ==== Proof.Slices.lean ====
/-
What a device's input windows hold: its columns of the query weights and its rows of the output weights, cut out by the
host's slices, and its other arguments whole.
-/
module

public import proofs.«01_k».proof.Proof.Region
public import Idealize.ShloMosaic.Lib.Pointwise
public import Idealize.ShloMosaic.Lib.DynamicIndex
public import Idealize.ShloMosaic.Lib.StableHlo.RunClose

@[expose] public section

noncomputable section

namespace Cert.Proof

open Cert.KernelIdeal Cert.KernelIdeal.Gen
open Idealize.ShloMosaic
open Idealize.ShloMosaic.TcCoe

variable (m : (ℓ : Loc nD τ sig) → Buf (Elt Ideal) ℓ)

/-- The word of the first column a device's slice takes. -/
def startWord (c : Dev nD) : BitVec 32 :=
  Scalar.select (IntOp.cmpi .slt (IntOp.muli (IntOp.remui .host (IntOp.divui .host (Dev.word c) 1#32) 8#32) 256#32) 0#32)
    (IntOp.addi (IntOp.muli (IntOp.remui .host (IntOp.divui .host (Dev.word c) 1#32) 8#32) 256#32) 2048#32)
    (IntOp.muli (IntOp.remui .host (IntOp.divui .host (Dev.word c) 1#32) 8#32) 256#32)

theorem startWord_eq : ∀ c : Dev nD, (startWord c).toInt = 256 * c.val := by decide +kernel

theorem slices_wq : ∀ c : Dev nD, S512x2048.Slices ![0, 256 * c.val] S512x256 := by decide
theorem slices_wo : ∀ c : Dev nD, S2048x512.Slices ![256 * c.val, 0] S256x512 := by decide

theorem wqIn_eq (c : Dev nD) : wqIn m c = extractStridedSlice (s := S512x2048) S512x256 ![0, 256 * c.val] (m ((c : Thread nD τ).loc main_arg1)) (slices_wq c) := by
  have he : wqIn m c = Host.dynamicSlice (s := S512x2048) S512x256 (m ((c : Thread nD τ).loc main_arg1)) ![0, (startWord c).toInt] sliceFits_S512x2048_S512x256 := by
    unfold wqIn V1
    after_results_simp_entrywise
    refine congrArg (Host.dynamicSlice S512x256 _ · _) (funext fun a => ?_)
    fin_cases a <;> rfl
  rw [he]
  exact Host.dynamicSlice_eq_extractStridedSlice (s := S512x2048) S512x256 _ _ ![0, 256 * c.val] _ (slices_wq c) fun a => by
    fin_cases a
    · rfl
    · exact startWord_eq c

theorem woIn_eq (c : Dev nD) : woIn m c = extractStridedSlice (s := S2048x512) S256x512 ![256 * c.val, 0] (m ((c : Thread nD τ).loc main_arg4)) (slices_wo c) := by
  have he : woIn m c = Host.dynamicSlice (s := S2048x512) S256x512 (m ((c : Thread nD τ).loc main_arg4)) ![(startWord c).toInt, 0] sliceFits_S2048x512_S256x512 := by
    unfold woIn V1
    after_results_simp_entrywise
    refine congrArg (Host.dynamicSlice S256x512 _ · _) (funext fun a => ?_)
    fin_cases a <;> rfl
  rw [he]
  exact Host.dynamicSlice_eq_extractStridedSlice (s := S2048x512) S256x512 _ _ ![256 * c.val, 0] _ (slices_wo c) fun a => by
    fin_cases a
    · exact startWord_eq c
    · rfl

theorem wqIn_apply (c : Dev nD) (e : Fin 512) (k : Fin 256) (h : 256 * c.val + k.val < 2048) :
    wqIn m c (ix2 e k) = m ((c : Thread nD τ).loc main_arg1) (ix2 e ⟨256 * c.val + k.val, h⟩) := by
  rw [wqIn_eq]
  refine congrArg (m ((c : Thread nD τ).loc main_arg1)) (funext fun a => Fin.ext ?_)
  fin_cases a
  · exact Nat.zero_add _
  · rfl

theorem woIn_apply (c : Dev nD) (k : Fin 256) (n : Fin 512) (h : 256 * c.val + k.val < 2048) :
    woIn m c (ix2 k n) = m ((c : Thread nD τ).loc main_arg4) (ix2 ⟨256 * c.val + k.val, h⟩ n) := by
  rw [woIn_eq]
  refine congrArg (m ((c : Thread nD τ).loc main_arg4)) (funext fun a => Fin.ext ?_)
  fin_cases a
  · rfl
  · exact Nat.zero_add _

theorem xIn_eq (c : Dev nD) : xIn m c = m ((c : Thread nD τ).loc main_arg0) := V1_of m c main_arg0 (by decide)
theorem kIn_eq (c : Dev nD) : kIn m c = m ((c : Thread nD τ).loc main_arg2) := V1_of m c main_arg2 (by decide)
theorem vIn_eq (c : Dev nD) : vIn m c = m ((c : Thread nD τ).loc main_arg3) := V1_of m c main_arg3 (by decide)

end Cert.Proof

end
-- ==== Proof.Total.lean ====
/-
The result read at an index: the sum over the devices of their partial products.
-/
module

public import proofs.«01_k».proof.Proof.Values
public import Idealize.ShloMosaic.Lib.Pointwise

@[expose] public section

noncomputable section

namespace Cert.Proof

open Cert.KernelIdeal Cert.KernelIdeal.Gen
open Idealize.ShloMosaic

variable (X : Dev nD → Part Ideal)

theorem ownRows_apply (c : Dev nD) (r : Fin 32) (n : Fin 512) (h : 32 * c.val + r.val < 256) :
    ownRows X c (ix2 r n) = X c (ix2 ⟨32 * c.val + r.val, h⟩ n) := by
  show X c ((rowR c).emb (ix2 r n)) = _
  refine congrArg (X c) (funext fun a => Fin.ext ?_)
  fin_cases a
  · show 32 * c.val + 1 * r.val = _
    rw [one_mul]; rfl
  · show 0 + 1 * n.val = _
    rw [one_mul, zero_add]; rfl

theorem slotVal_apply (c : Dev nD) (k : Fin 7) (r : Fin 32) (n : Fin 512) (h : 32 * c.val + r.val < 256) :
    slotVal X c k (ix3 0 r n) = X (back k c) (ix2 ⟨32 * c.val + r.val, h⟩ n) := by
  show landed X c ((slotR k.succ).emb (ix3 0 r n)) = _
  have h0 : (slotR k.succ).emb (ix3 0 r n) 0 = k.succ := Fin.ext (show k.succ.val + 1 * 0 = k.succ.val by omega)
  unfold landed
  rw [h0, srcDev_succ]
  refine congrArg (X (back k c)) (funext fun a => Fin.ext ?_)
  fin_cases a
  · show 32 * c.val + 1 * (0 + 1 * r.val) = _
    rw [one_mul, zero_add, one_mul]; rfl
  · show 0 + 1 * (0 + 1 * n.val) = _
    rw [one_mul, zero_add, one_mul, zero_add]; rfl

theorem acc_apply (c : Dev nD) (r : Fin 32) (n : Fin 512) :
    acc X c (ix3 0 r n) = (ownRows X c (ix2 r n) : EReal) + ∑ k : Fin 7, (slotVal X c k (ix3 0 r n) : EReal) := by
  rw [Fin.sum_univ_seven]
  pointwise [acc, k0_pay16, k0_pay17, k0_pay18]
  simp only [add_assoc]

/-- A device and the seven before it are all the devices. -/
theorem sum_around (f : Dev nD → EReal) (c : Dev nD) : f c + ∑ k : Fin 7, f (back k c) = ∑ d : Dev nD, f d := by
  rw [← (Equiv.ofBijective _ (around_bij c)).sum_comp f, Fintype.sum_option]
  refine congrArg (f c + ·) ?_
  simp only [back_eq_peer_rev]
  exact Equiv.sum_comp (Fin.revPerm (n := 7)) fun k => f (peer k c)

theorem result_apply (b : Fin 2) (i : Fin 128) (n : Fin 512) :
    result X (ix3 b i n) = (∑ d : Dev nD, X d (ix2 ⟨128 * b.val + i.val, by omega⟩ n) : EReal) := by
  let c : Dev nD := outDev (ix3 b i n)
  have hc : c.val = 4 * b.val + i.val / 32 := rfl
  have hr : 32 * c.val + i.val % 32 = 128 * b.val + i.val := by rw [hc]; omega
  have hlt : 32 * c.val + i.val % 32 < 256 := by omega
  have hl : outLoc (ix3 b i n) = ix3 0 ⟨i.val % 32, by omega⟩ n := by
    funext a; fin_cases a <;> rfl
  show acc X c (outLoc (ix3 b i n)) = _
  have e : (⟨32 * c.val + i.val % 32, hlt⟩ : Fin 256) = ⟨128 * b.val + i.val, by omega⟩ := Fin.ext hr
  rw [hl, acc_apply, ownRows_apply X c ⟨i.val % 32, by omega⟩ n hlt, ← e]
  refine Eq.trans ?_ (sum_around (fun d => X d (ix2 ⟨32 * c.val + i.val % 32, hlt⟩ n)) c)
  exact congrArg _ (Finset.sum_congr rfl fun k _ => slotVal_apply X c k ⟨i.val % 32, by omega⟩ n hlt)

end Cert.Proof

end
-- ==== Proof.Soft.lean ====
/-
Masked softmax averages over the extended reals: columns whose score is −∞ drop out when some score is finite.
-/
module

public import Idealize.ShloMosaic.PureOps.Ideal

@[expose] public section

noncomputable section

namespace Cert.Proof

open Idealize.ShloMosaic

/-- A real number, neither infinity. -/
def IsReal (a : EReal) : Prop := ∃ r : ℝ, a = (r : EReal)

theorem IsReal.mul {a b : EReal} : IsReal a → IsReal b → IsReal (a * b) := by
  rintro ⟨r, rfl⟩ ⟨s, rfl⟩
  exact ⟨r * s, (EReal.coe_mul r s).symm⟩

theorem IsReal.add {a b : EReal} : IsReal a → IsReal b → IsReal (a + b) := by
  rintro ⟨r, rfl⟩ ⟨s, rfl⟩
  exact ⟨r + s, (EReal.coe_add r s).symm⟩

theorem IsReal.sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact (h a).add ih

variable {ι κ : Type} [Fintype ι] [Fintype κ]

/-- The greatest score. -/
def top (a : ι → EReal) : EReal := Finset.univ.fold max ⊥ a

/-- The unnormalised weight of a column. -/
def weight (a : ι → EReal) (t : ι) : EReal := Ideal.exp (a t - top a)

/-- The average of `v` by the softmax weights of the scores `a`. -/
def soft (a v : ι → EReal) : EReal := ∑ t, Ideal.div (weight a t) (∑ u, weight a u) * v t

theorem top_eq_sup (a : ι → EReal) : top a = Finset.univ.sup a := rfl

theorem top_comp (f : κ → ι) (a : ι → EReal) (h : ∀ t, t ∉ Set.range f → a t = ⊥) : top (a ∘ f) = top a := by
  rw [top_eq_sup, top_eq_sup]
  refine le_antisymm (Finset.sup_le fun u _ => Finset.le_sup (f := a) (Finset.mem_univ (f u))) (Finset.sup_le fun t _ => ?_)
  by_cases ht : t ∈ Set.range f
  · obtain ⟨u, rfl⟩ := ht
    exact Finset.le_sup (f := a ∘ f) (Finset.mem_univ u)
  · rw [h t ht]; exact bot_le

theorem weight_bot {a : ι → EReal} {t : ι} (h : a t = ⊥) : weight a t = 0 := by
  rw [weight, h, EReal.bot_sub]; exact Ideal.exp_bot

theorem exp_nonneg (x : EReal) : 0 ≤ Ideal.exp x := by
  induction x with
  | bot => exact le_refl _
  | top => exact le_top
  | coe r => rw [Ideal.exp_coe]; exact_mod_cast (Real.exp_pos r).le

/-- One finite score, and none +∞: the weights do not sum to zero. -/
theorem sum_weight_ne_zero (a : ι → EReal) (t : ι) (ht : IsReal (a t)) (h : ∀ u, a u ≠ ⊤) : ∑ u, weight a u ≠ 0 := by
  have hle : weight a t ≤ ∑ u, weight a u :=
    Finset.single_le_sum (f := weight a) (fun u _ => exp_nonneg (a u - top a)) (Finset.mem_univ t)
  have htop : IsReal (top a) := by
    rw [top_eq_sup]
    obtain ⟨r, hr⟩ := ht
    have h1 : Finset.univ.sup a ≠ ⊤ := (lt_top_iff_ne_top).1 <|
      (Finset.sup_lt_iff (bot_lt_top)).2 fun u _ => lt_top_iff_ne_top.2 (h u)
    have h2 : Finset.univ.sup a ≠ ⊥ := fun e => by
      have := Finset.le_sup (f := a) (Finset.mem_univ t)
      rw [e, hr] at this
      exact absurd (le_bot_iff.1 this) (EReal.coe_ne_bot r)
    exact ⟨_, (EReal.coe_toReal h1 h2).symm⟩
  have hpos : 0 < weight a t := by
    obtain ⟨r, hr⟩ := ht
    obtain ⟨s, hs⟩ := htop
    rw [weight, hr, hs, ← EReal.coe_sub, Ideal.exp_coe]
    exact_mod_cast Real.exp_pos _
  exact (lt_of_lt_of_le hpos hle).ne'

theorem weight_comp (f : κ → ι) (a : ι → EReal) (h : ∀ t, t ∉ Set.range f → a t = ⊥) (u : κ) : weight (a ∘ f) u = weight a (f u) := by
  rw [weight, weight, top_comp f a h, Function.comp_apply]

theorem sum_weight_comp (f : κ → ι) (hf : Function.Injective f) (a : ι → EReal) (h : ∀ t, t ∉ Set.range f → a t = ⊥) :
    ∑ u, weight (a ∘ f) u = ∑ t, weight a t :=
  Fintype.sum_of_injective f hf _ _ (fun t ht => weight_bot (h t ht)) (weight_comp f a h)

/-- The columns outside the range of `f` have score −∞, and the others' average is theirs alone. -/
theorem soft_comp (f : κ → ι) (hf : Function.Injective f) (a v : ι → EReal) (h : ∀ t, t ∉ Set.range f → a t = ⊥)
    (hs : ∑ u, weight a u ≠ 0) : soft (a ∘ f) (v ∘ f) = soft a v := by
  unfold soft
  refine Fintype.sum_of_injective f hf _ _ (fun t ht => ?_) (fun u => ?_)
  · rw [weight_bot (h t ht), Ideal.div, if_neg hs, zero_mul, zero_mul]
  · rw [weight_comp f a h, sum_weight_comp f hf a h, Function.comp_apply]

end Cert.Proof

end
-- ==== Proof.Head.lean ====
/-
One head of the kernel's attention, read at an index.
-/
module

public import proofs.«01_k».proof.Proof.Values
public import proofs.«01_k».proof.Proof.Soft
public import Idealize.ShloMosaic.Lib.Pointwise

@[expose] public section

noncomputable section

namespace Cert.Proof

open Cert.KernelIdeal Cert.KernelIdeal.Gen
open Idealize.ShloMosaic

section
variable {F : FTy → Type} [FloatOps F] [Named F]

/-- The masked, scaled scores of one head's queries against its keys. -/
def scoresOf (mask : IVec S256x256 1) (q k : FVec F S256x64 .f32) : FVec F S256x256 .f32 :=
  select mask (mulf (matmul dot_S256x64_S256x64_S256x256_1_1_0_0_n_n none q k (constant S256x256 .f32 0x00000000#32)) k0_pay9)
    (broadcast S256x256 (Named.named κ "mask" 0xCE6E6B28#32))

/-- Every row's maximum, along the row. -/
def rowMax (s : FVec F S256x256 .f32) : FVec F S256x256 .f32 :=
  broadcastTo S256x256 (shapeCast S256x1 (multiReduction .maximumf [1] S256 s 0xFF800000#32 reduces_S256x256_S256 (.inl rfl) rfl) shapeCasts_S256_S256x1)
    broadcasts_S256x1_S256x256

/-- The softmax of the scores `s`, given their row maxima, times the values. -/
def softOf (s mx : FVec F S256x256 .f32) (v : FVec F S256x64 .f32) : FVec F S256x64 .f32 :=
  matmul dot_S256x256_S256x64_S256x64_1_0_0_1_n_n none
    (divf (exp (subf s mx)) (broadcastTo S256x256 (shapeCast S256x1 (multiReduction .add [1] S256 (exp (subf s mx)) 0x00000000#32 reduces_S256x256_S256 (.inl rfl) rfl)
      shapeCasts_S256_S256x1) broadcasts_S256x1_S256x256)) v (constant S256x64 .f32 0x00000000#32)

/-- One head's attention. -/
def headOf (mask : IVec S256x256 1) (q k v : FVec F S256x64 .f32) : FVec F S256x64 .f32 :=
  softOf (scoresOf mask q k) (rowMax (scoresOf mask q k)) v

/-- A head's columns of the queries. -/
def qHead (q : FVec F S256x256 .f32) (o : Nat) (h : S256x256.Slices ![0, o] S256x64) : FVec F S256x64 .f32 :=
  extractStridedSlice S256x64 ![0, o] q h
/-- A head's plane of the keys or values. -/
def kHead (k : FVec F S256x4x64 .f32) (o : Nat) (h : S256x4x64.Slices ![0, o, 0] S256x1x64) : FVec F S256x64 .f32 :=
  shapeCast S256x64 (extractStridedSlice S256x1x64 ![0, o, 0] k h) shapeCasts_S256x1x64_S256x64

/-- The four heads side by side, times the output weights. -/
def attend (mask : IVec S256x256 1) (q : FVec F S256x256 .f32) (k v : FVec F S256x4x64 .f32) (wo : FVec F S256x512 .f32) : FVec F S256x512 .f32 :=
  matmul dot_S256x256_S256x512_S256x512_1_0_0_1_n_n none
    (concatenate S256x256 1
      [⟨S256x64, headOf mask (qHead q 0 slices_S256x256_o0_0_S256x64) (kHead k 0 slices_S256x4x64_o0_0_0_S256x1x64) (kHead v 0 slices_S256x4x64_o0_0_0_S256x1x64)⟩,
       ⟨S256x64, headOf mask (qHead q 64 slices_S256x256_o0_64_S256x64) (kHead k 1 slices_S256x4x64_o0_1_0_S256x1x64) (kHead v 1 slices_S256x4x64_o0_1_0_S256x1x64)⟩,
       ⟨S256x64, headOf mask (qHead q 128 slices_S256x256_o0_128_S256x64) (kHead k 2 slices_S256x4x64_o0_2_0_S256x1x64) (kHead v 2 slices_S256x4x64_o0_2_0_S256x1x64)⟩,
       ⟨S256x64, headOf mask (qHead q 192 slices_S256x256_o0_192_S256x64) (kHead k 3 slices_S256x4x64_o0_3_0_S256x1x64) (kHead v 3 slices_S256x4x64_o0_3_0_S256x1x64)⟩]
      concatenates_S256x64_S256x64_S256x64_S256x64_S256x256_d1)
    (shapeCast S256x512 wo shapeCasts_S256x512_S256x512) (constant S256x512 .f32 0x00000000#32)

/-- Which columns a row attends to. -/
def maskOf : IVec S256x256 1 := k0_pay4 k0_pay2 k0_pay3

theorem partOf_eq (x : Vec F S2x128x512 .f32) (wq : Vec F S512x256 .f32) (kk vv : Vec F S2x128x4x64 .f32) (wo : Vec F S256x512 .f32) :
    partOf x wq kk vv wo
      = shapeCast S256x512 (attend maskOf (k0_pay1 x wq) (k0_pay5 kk) (k0_pay6 vv) wo) shapeCasts_S256x512_S256x512 := rfl
end

theorem mask_named : (Named.named κ "mask" 0xCE6E6B28#32 : Ideal .f32) = (⊥ : EReal) := by
  simp [Named.named, κ]

theorem bits_bot : Ideal.ofBits .f32 0xFF800000#32 = ⊥ := by simp [Ideal.ofBits, Ideal.ieee]

/-- The literal that scales the scores. -/
def scale : EReal := Ideal.ofBits .f32 0x3E000000#32

theorem scoresOf_apply (mask : IVec S256x256 1) (q k : FVec Ideal S256x64 .f32) (r t : Fin 256) :
    scoresOf mask q k (ix2 r t) = if mask (ix2 r t) = 1#1 then (∑ e : Fin 64, q (ix2 r e) * k (ix2 t e)) * scale else (⊥ : EReal) := by
  pointwise [scoresOf, k0_pay9, mask_named]
  rfl

theorem rowMax_apply (s : FVec Ideal S256x256 .f32) (r t : Fin 256) : rowMax s (ix2 r t) = top fun u => s (ix2 r u) := by
  pointwise [rowMax, bits_bot]
  rfl

theorem softOf_apply (s : FVec Ideal S256x256 .f32) (v : FVec Ideal S256x64 .f32) (r : Fin 256) (d : Fin 64) :
    softOf s (rowMax s) v (ix2 r d) = soft (fun t => s (ix2 r t)) fun t => v (ix2 t d) := by
  pointwise [softOf, rowMax_apply]
  rfl

/-- The number of a row's block of 64, as the kernel computes it: a division rounded down. -/
def blockWord (r : Nat) : BitVec 32 :=
  Scalar.select
    (IntOp.andi
      (IntOp.cmpi .ne
        (IntOp.subi (BitVec.setWidth 32 (IntOp.cmpi .sgt (BitVec.ofNat 32 r) 0#32)) (BitVec.setWidth 32 (IntOp.cmpi .slt (BitVec.ofNat 32 r) 0#32)))
        (Scalar.subi (Scalar.extui (Scalar.cmpi .sgt 64#32 0#32)) (Scalar.extui (Scalar.cmpi .slt 64#32 0#32))))
      (IntOp.cmpi .ne (IntOp.remsi .vector (BitVec.ofNat 32 r) 64#32) 0#32))
    (IntOp.subi (IntOp.divsi .vector (BitVec.ofNat 32 r) 64#32) 1#32)
    (IntOp.divsi .vector (BitVec.ofNat 32 r) 64#32)

theorem blockWord_eq : ∀ r : Fin 256, blockWord r.val = BitVec.ofNat 32 (r.val / 64) := by decide +kernel

theorem cmpi_eq_block : ∀ a b : Fin 4, IntOp.cmpi .eq (BitVec.ofNat 32 a.val) (BitVec.ofNat 32 b.val) = 1#1 ↔ a.val = b.val := by decide

theorem maskOf_apply (r t : Fin 256) : maskOf (ix2 r t) = 1#1 ↔ r.val / 64 = t.val / 64 := by
  have e : maskOf (ix2 r t) = IntOp.cmpi .eq (blockWord r.val) (blockWord t.val) := by
    pointwise [maskOf, k0_pay4, k0_pay2, k0_pay3]
    rfl
  rw [e, blockWord_eq, blockWord_eq]
  exact cmpi_eq_block ⟨r.val / 64, by omega⟩ ⟨t.val / 64, by omega⟩

/-- One head's attention at an index: the softmax average of the values over the row's block. -/
theorem headOf_apply (q k v : FVec Ideal S256x64 .f32) (r : Fin 256) (d : Fin 64) :
    headOf maskOf q k v (ix2 r d)
      = soft (fun t : Fin 256 => if r.val / 64 = t.val / 64 then (∑ e : Fin 64, q (ix2 r e) * k (ix2 t e)) * scale else (⊥ : EReal)) fun t => v (ix2 t d) := by
  rw [headOf, softOf_apply]
  congr 1
  funext t
  rw [scoresOf_apply]
  simp only [maskOf_apply]

theorem qHead_apply (q : FVec Ideal S256x256 .f32) (o : Nat) (ho : o + 64 ≤ 256) (h : S256x256.Slices ![0, o] S256x64) (r : Fin 256) (e : Fin 64) :
    qHead q o h (ix2 r e) = q (ix2 r ⟨o + e.val, by omega⟩) := by
  pointwise [qHead]

theorem kHead_apply (k : FVec Ideal S256x4x64 .f32) (o : Fin 4) (h : S256x4x64.Slices ![0, o.val, 0] S256x1x64) (r : Fin 256) (e : Fin 64) :
    kHead k o.val h (ix2 r e) = k (ix3 r o e) := by
  pointwise [kHead]

/-- Head `h`'s attention from the queries, keys and values of all four heads, the two batches' rows one after the other. -/
def flatCtx (q : FVec Ideal S256x256 .f32) (k v : FVec Ideal S256x4x64 .f32) (h : Fin 4) (r : Fin 256) (d : Fin 64) : EReal :=
  soft (fun t : Fin 256 => if r.val / 64 = t.val / 64 then
      (∑ e : Fin 64, q (ix2 r ⟨64 * h.val + e.val, by omega⟩) * k (ix3 t h e)) * scale else (⊥ : EReal)) fun t => v (ix3 t h d)

theorem head_at (q : FVec Ideal S256x256 .f32) (k v : FVec Ideal S256x4x64 .f32) (h : Fin 4) (hq : S256x256.Slices ![0, 64 * h.val] S256x64)
    (hk hv : S256x4x64.Slices ![0, h.val, 0] S256x1x64) (r : Fin 256) (d : Fin 64) :
    headOf maskOf (qHead q (64 * h.val) hq) (kHead k h.val hk) (kHead v h.val hv) (ix2 r d) = flatCtx q k v h r d := by
  rw [headOf_apply, flatCtx]
  simp only [qHead_apply q (64 * h.val) (by omega), kHead_apply]

theorem attend_apply (q : FVec Ideal S256x256 .f32) (k v : FVec Ideal S256x4x64 .f32) (wo : FVec Ideal S256x512 .f32)
    (r : Fin 256) (n : Fin 512) : attend maskOf q k v wo (ix2 r n)
      = ∑ x : Fin 256, flatCtx q k v ⟨x.val / 64, by omega⟩ r ⟨x.val % 64, by omega⟩ * (wo (ix2 x n) : EReal) := by
  pointwise [attend]
  refine Finset.sum_congr rfl fun x _ => congrArg (fun a : EReal => a * (wo (ix2 x n) : EReal)) ?_
  have key : ∀ (h : Fin 4) (d : Fin 64), x.val = 64 * h.val + d.val →
      flatCtx q k v h r d = flatCtx q k v ⟨x.val / 64, by omega⟩ r ⟨x.val % 64, by omega⟩ := fun h d e => by
    congr 1
    · exact Fin.ext (show h.val = x.val / 64 by omega)
    · exact Fin.ext (show d.val = x.val % 64 by omega)
  split
  · exact (head_at q k v 0 _ _ _ r _).trans (key 0 _ (by simp))
  split
  · exact (head_at q k v 1 _ _ _ r _).trans (key 1 _ (by simp; omega))
  split
  · exact (head_at q k v 2 _ _ _ r _).trans (key 2 _ (by simp; omega))
  · exact (head_at q k v 3 _ _ _ r _).trans (key 3 _ (by simp; omega))

theorem pay1_apply (x : Vec Ideal S2x128x512 .f32) (wq : Vec Ideal S512x256 .f32) (r c : Fin 256) :
    k0_pay1 x wq (ix2 r c) = ∑ e : Fin 512, (x (ix3 ⟨r.val / 128, by omega⟩ ⟨r.val % 128, by omega⟩ e) : EReal) * (wq (ix2 e c) : EReal) := by
  pointwise [k0_pay1]

theorem pay5_apply (k : Vec Ideal S2x128x4x64 .f32) (r : Fin 256) (h : Fin 4) (e : Fin 64) :
    k0_pay5 k (ix3 r h e) = k (ix4 ⟨r.val / 128, by omega⟩ ⟨r.val % 128, by omega⟩ h e) := by
  pointwise [k0_pay5]

theorem pay6_apply (k : Vec Ideal S2x128x4x64 .f32) (r : Fin 256) (h : Fin 4) (e : Fin 64) :
    k0_pay6 k (ix3 r h e) = k (ix4 ⟨r.val / 128, by omega⟩ ⟨r.val % 128, by omega⟩ h e) := pay5_apply k r h e

theorem partOf_apply (x : Vec Ideal S2x128x512 .f32) (wq : Vec Ideal S512x256 .f32) (kk vv : Vec Ideal S2x128x4x64 .f32) (wo : Vec Ideal S256x512 .f32)
    (r : Fin 256) (n : Fin 512) : partOf x wq kk vv wo (ix2 r n)
      = ∑ c : Fin 256, flatCtx (k0_pay1 x wq) (k0_pay5 kk) (k0_pay6 vv) ⟨c.val / 64, by omega⟩ r ⟨c.val % 64, by omega⟩ * (wo (ix2 c n) : EReal) := by
  rw [partOf_eq, shapeCast_self]
  exact attend_apply _ _ _ _ r n

end Cert.Proof

end
-- ==== Proof.Shard.lean ====
/-
What attention over all heads is, and a device's partial product as the share of it that its own heads contribute.
-/
module

public import proofs.«01_k».proof.Proof.Head
public import proofs.«01_k».proof.Proof.Gen.ReferenceIdeal

@[expose] public section

noncomputable section

namespace Cert.Proof

open Cert.KernelIdeal Cert.KernelIdeal.Gen
open Cert.ReferenceIdeal (S2x128x32x64)
open Idealize.ShloMosaic

/-- The whole arrays. -/
structure Whole where
  x : Vec Ideal S2x128x512 .f32
  wq : Vec Ideal S512x2048 .f32
  k : Vec Ideal S2x128x32x64 .f32
  v : Vec Ideal S2x128x32x64 .f32
  wo : Vec Ideal S2048x512 .f32

variable (W : Whole)

/-- The queries. -/
def Whole.query (b : Fin 2) (i : Fin 128) (c : Fin 2048) : EReal := ∑ e : Fin 512, (W.x (ix3 b i e) : EReal) * (W.wq (ix2 e c) : EReal)

/-- The scaled score of token `i` for token `j` in head `h`. -/
def Whole.score (b : Fin 2) (h : Fin 32) (i j : Fin 128) : EReal :=
  (∑ e : Fin 64, W.query b i ⟨64 * h.val + e.val, by omega⟩ * (W.k (ix4 b j h e) : EReal)) * scale

/-- The score, −∞ outside the token's block. -/
def Whole.masked (b : Fin 2) (h : Fin 32) (i j : Fin 128) : EReal := if i.val / 64 = j.val / 64 then W.score b h i j else ⊥

/-- The attention's average. -/
def Whole.ctx (b : Fin 2) (i : Fin 128) (h : Fin 32) (d : Fin 64) : EReal := soft (W.masked b h i) fun j => W.v (ix4 b j h d)

/-- One term of the output: column `c` of the averages, times its row of the output weights. -/
def Whole.term (b : Fin 2) (i : Fin 128) (n : Fin 512) (c : Fin 2048) : EReal :=
  W.ctx b i ⟨c.val / 64, by omega⟩ ⟨c.val % 64, by omega⟩ * (W.wo (ix2 c n) : EReal)

/-- The output. -/
def Whole.out (b : Fin 2) (i : Fin 128) (n : Fin 512) : EReal := ∑ c : Fin 2048, W.term b i n c

/-- What the scores are made of is finite. -/
structure Whole.Finite : Prop where
  x : ∀ b i e, IsReal (W.x (ix3 b i e))
  wq : ∀ e c, IsReal (W.wq (ix2 e c))
  k : ∀ b j h e, IsReal (W.k (ix4 b j h e))

theorem isReal_scale : IsReal scale := ⟨1 / 8, by simp [scale, Ideal.ofBits, Ideal.ieee, -EReal.coe_mul]; norm_num⟩

variable {W}

theorem Whole.Finite.score (hW : W.Finite) (b : Fin 2) (h : Fin 32) (i j : Fin 128) : IsReal (W.score b h i j) :=
  (IsReal.sum _ _ fun e => (IsReal.sum _ _ fun _ => (hW.x _ _ _).mul (hW.wq _ _)).mul (hW.k _ _ _ _)).mul isReal_scale

/-- A row's weights do not sum to zero. -/
theorem Whole.Finite.sum_ne (hW : W.Finite) (b : Fin 2) (h : Fin 32) (i : Fin 128) : ∑ j, weight (W.masked b h i) j ≠ 0 := by
  refine sum_weight_ne_zero _ i ?_ fun j => ?_
  · rw [Whole.masked, if_pos rfl]; exact hW.score b h i i
  · unfold Whole.masked
    split
    · obtain ⟨r, hr⟩ := hW.score b h i j
      rw [hr]; exact EReal.coe_ne_top r
    · exact bot_ne_top

/-- A device's inputs: its columns of the query weights, its heads of the keys and values, its rows of the output weights. -/
structure Shard (W : Whole) (c : Fin 8) (x : Vec Ideal S2x128x512 .f32) (wq : Vec Ideal S512x256 .f32) (kk vv : Vec Ideal S2x128x4x64 .f32)
    (wo : Vec Ideal S256x512 .f32) : Prop where
  x : ∀ b i e, x (ix3 b i e) = W.x (ix3 b i e)
  wq : ∀ (e : Fin 512) (k : Fin 256), wq (ix2 e k) = W.wq (ix2 e ⟨256 * c.val + k.val, by omega⟩)
  k : ∀ b j (h : Fin 4) e, kk (ix4 b j h e) = W.k (ix4 b j ⟨4 * c.val + h.val, by omega⟩ e)
  v : ∀ b j (h : Fin 4) e, vv (ix4 b j h e) = W.v (ix4 b j ⟨4 * c.val + h.val, by omega⟩ e)
  wo : ∀ (k : Fin 256) (n : Fin 512), wo (ix2 k n) = W.wo (ix2 ⟨256 * c.val + k.val, by omega⟩ n)

variable {c : Fin 8} {x : Vec Ideal S2x128x512 .f32} {wq : Vec Ideal S512x256 .f32} {kk vv : Vec Ideal S2x128x4x64 .f32} {wo : Vec Ideal S256x512 .f32}

/-- Token `i` of batch `b` among the rows of the two batches one after the other. -/
def rowAt (b : Fin 2) (i : Fin 128) : Fin 256 := ⟨128 * b.val + i.val, by omega⟩

theorem ix3_rowAt (b : Fin 2) (i : Fin 128) (e : Fin 512) :
    (ix3 ⟨(rowAt b i).val / 128, by omega⟩ ⟨(rowAt b i).val % 128, by omega⟩ e : S2x128x512.Idx) = ix3 b i e := by
  congr 1 <;> exact Fin.ext (by simp only [rowAt]; omega)

theorem ix4_rowAt (b : Fin 2) (i : Fin 128) (h : Fin 4) (e : Fin 64) :
    (ix4 ⟨(rowAt b i).val / 128, by omega⟩ ⟨(rowAt b i).val % 128, by omega⟩ h e : S2x128x4x64.Idx) = ix4 b i h e := by
  congr 1 <;> exact Fin.ext (by simp only [rowAt]; omega)

theorem Shard.query (S : Shard W c x wq kk vv wo) (b : Fin 2) (i : Fin 128) (k : Fin 256) :
    k0_pay1 x wq (ix2 (rowAt b i) k) = W.query b i ⟨256 * c.val + k.val, by omega⟩ := by
  rw [pay1_apply]
  exact Finset.sum_congr rfl fun e _ => by rw [ix3_rowAt, S.x, S.wq]

theorem Shard.keys (S : Shard W c x wq kk vv wo) (b : Fin 2) (j : Fin 128) (h : Fin 4) (e : Fin 64) :
    k0_pay5 kk (ix3 (rowAt b j) h e) = W.k (ix4 b j ⟨4 * c.val + h.val, by omega⟩ e) := by
  rw [pay5_apply, ix4_rowAt, S.k]

theorem Shard.vals (S : Shard W c x wq kk vv wo) (b : Fin 2) (j : Fin 128) (h : Fin 4) (e : Fin 64) :
    k0_pay6 vv (ix3 (rowAt b j) h e) = W.v (ix4 b j ⟨4 * c.val + h.val, by omega⟩ e) := by
  rw [pay6_apply, ix4_rowAt, S.v]

/-- The device's head `h` is head `4 c + h`: the other batch's columns are masked out. -/
theorem Shard.ctx (S : Shard W c x wq kk vv wo) (hW : W.Finite) (b : Fin 2) (i : Fin 128) (h : Fin 4) (d : Fin 64) :
    flatCtx (k0_pay1 x wq) (k0_pay5 kk) (k0_pay6 vv) h (rowAt b i) d = W.ctx b i ⟨4 * c.val + h.val, by omega⟩ d := by
  have hinj : Function.Injective (rowAt b) := fun i j e => Fin.ext (by have := congrArg Fin.val e; simp only [rowAt] at this; omega)
  have hsc : (fun t : Fin 256 => if (rowAt b i).val / 64 = t.val / 64 then
      (∑ e : Fin 64, k0_pay1 x wq (ix2 (rowAt b i) ⟨64 * h.val + e.val, by omega⟩) * k0_pay5 kk (ix3 t h e)) * scale else (⊥ : EReal)) ∘ rowAt b
      = W.masked b ⟨4 * c.val + h.val, by omega⟩ i := by
    funext j
    show (if (rowAt b i).val / 64 = (rowAt b j).val / 64 then
      (∑ e : Fin 64, k0_pay1 x wq (ix2 (rowAt b i) ⟨64 * h.val + e.val, by omega⟩) * k0_pay5 kk (ix3 (rowAt b j) h e)) * scale else (⊥ : EReal)) = _
    unfold Whole.masked Whole.score
    have hb : ((rowAt b i).val / 64 = (rowAt b j).val / 64) = (i.val / 64 = j.val / 64) := by
      simp only [rowAt, eq_iff_iff]; omega
    rw [if_congr (iff_of_eq hb) rfl rfl]
    congr 2
    refine Finset.sum_congr rfl fun e _ => ?_
    rw [S.query, S.keys]
    rw [show (⟨256 * c.val + (64 * h.val + e.val), by omega⟩ : Fin 2048) = ⟨64 * (4 * c.val + h.val) + e.val, by omega⟩ from
      Fin.ext (show 256 * c.val + (64 * h.val + e.val) = 64 * (4 * c.val + h.val) + e.val by omega)]
  have hv : (fun t : Fin 256 => k0_pay6 vv (ix3 t h d)) ∘ rowAt b = fun j => W.v (ix4 b j ⟨4 * c.val + h.val, by omega⟩ d) :=
    funext fun j => S.vals b j h d
  have hbot : ∀ t, t ∉ Set.range (rowAt b) → (fun t : Fin 256 => if (rowAt b i).val / 64 = t.val / 64 then
      (∑ e : Fin 64, k0_pay1 x wq (ix2 (rowAt b i) ⟨64 * h.val + e.val, by omega⟩) * k0_pay5 kk (ix3 t h e)) * scale else (⊥ : EReal)) t = ⊥ := fun t ht =>
    if_neg fun e => ht ⟨⟨t.val - 128 * b.val, by simp only [rowAt] at e; omega⟩, Fin.ext (by simp only [rowAt] at e ⊢; omega)⟩
  unfold flatCtx
  rw [← soft_comp (rowAt b) hinj _ _ hbot, hsc, hv]
  · rfl
  · rw [← sum_weight_comp (rowAt b) hinj _ hbot, hsc]
    exact hW.sum_ne b _ i

/-- A device's partial product: the terms of the output that its 256 columns give. -/
theorem Shard.part (S : Shard W c x wq kk vv wo) (hW : W.Finite) (b : Fin 2) (i : Fin 128) (n : Fin 512) :
    partOf x wq kk vv wo (ix2 (rowAt b i) n) = (∑ k : Fin 256, W.term b i n ⟨256 * c.val + k.val, by omega⟩ : EReal) := by
  refine (partOf_apply _ _ _ _ _ _ _).trans (Finset.sum_congr (M := EReal) rfl fun k _ => ?_)
  rw [S.ctx hW, S.wo]
  unfold Whole.term
  congr 2
  · exact Fin.ext (show 4 * c.val + k.val / 64 = (256 * c.val + k.val) / 64 by omega)
  · exact Fin.ext (show k.val % 64 = (256 * c.val + k.val) % 64 by omega)

end Cert.Proof

end
-- ==== Proof.RefValue.lean ====
/-
The reference's result, read at an index: attention over all heads.
-/
module

public import proofs.«01_k».proof.Proof.Gen.ReferenceIdeal
public import proofs.«01_k».proof.Proof.Gen.ReferenceIdeal.Run
public import proofs.«01_k».proof.Proof.Shard
public import Idealize.ShloMosaic.Lib.Pointwise
public import Idealize.ShloMosaic.Lib.Tactic.CleanTypes
public import Idealize.ShloMosaic.Lib.Routing.OpsOrder

@[expose] public section

noncomputable section

namespace Cert.Proof.Ref

open Cert.ReferenceIdeal Cert.ReferenceIdeal.Gen Cert.ReferenceIdeal.Value
open Idealize.ShloMosaic
open Idealize.ShloMosaic.TcCoe

/-! ## Which tokens a token attends to -/

/-- A token's number divided by 64, rounded down. -/
def blk : IVec S128 32 :=
  select (andi (cmpi .ne (signi (iotaInDim S128 32 0)) (broadcastInDim S128 ![] bcast_S_S128 (signi (id (constantI S_ 32 64#32)))))
      (cmpi .ne (Host.remsi (iotaInDim S128 32 0) (broadcastInDim S128 ![] bcast_S_S128 (id (constantI S_ 32 64#32)))) (broadcastInDim S128 ![] bcast_S_S128 (constantI S_ 32 0#32))))
    (subi (Host.divsi (iotaInDim S128 32 0) (broadcastInDim S128 ![] bcast_S_S128 (id (constantI S_ 32 64#32)))) (broadcastInDim S128 ![] bcast_S_S128 (constantI S_ 32 1#32)))
    (Host.divsi (iotaInDim S128 32 0) (broadcastInDim S128 ![] bcast_S_S128 (id (constantI S_ 32 64#32))))

/-- Four, as the remainder takes it. -/
def four : IVec S_ 32 :=
  select (cmpi .eq (id (constantI S_ 32 4#32)) (constantI S_ 32 0#32)) (constantI S_ 32 1#32) (id (constantI S_ 32 4#32))

/-- The remainder by four that has the sign of four. -/
def mod4 (s : Shape) (h : S_.BroadcastsInDim s (![] : Fin 0 → Fin s.rank)) (v : IVec s 32) : IVec s 32 :=
  select (andi (cmpi .ne (cmpi .slt (Host.remsi v (broadcastInDim s ![] h four)) (broadcastInDim s ![] h (constantI S_ 32 0#32)))
        (broadcastInDim s ![] h (cmpi .slt four (constantI S_ 32 0#32))))
      (cmpi .ne (Host.remsi v (broadcastInDim s ![] h four)) (broadcastInDim s ![] h (constantI S_ 32 0#32))))
    (addi (Host.remsi v (broadcastInDim s ![] h four)) (broadcastInDim s ![] h four)) (Host.remsi v (broadcastInDim s ![] h four))

/-- The blocks down a column, and along a row. -/
def colBlk : IVec S128x1 32 := broadcastInDim S128x1 ![0] bcast_S128_S128x1_0 blk
def rowBlk : IVec S1x128 32 := broadcastInDim S1x128 ![1] bcast_S128_S1x128_1 blk

/-- The mask. -/
def keep : IVec S128x128 1 :=
  ori (cmpi .eq (broadcastInDim S128x128 ![0, 1] bcast_S128x1_S128x128_0_1 colBlk) (broadcastInDim S128x128 ![0, 1] bcast_S1x128_S128x128_0_1 rowBlk))
    (cmpi .eq (broadcastInDim S128x128 ![0, 1] bcast_S1x128_S128x128_0_1 (mod4 S1x128 bcast_S_S1x128 rowBlk))
      (broadcastInDim S128x128 ![0, 1] bcast_S128x1_S128x128_0_1 (mod4 S128x1 bcast_S_S128x1 colBlk)))

/-- Whether a token attends to any. -/
def keepRow : IVec S128 1 := Host.reduce IntOp.ori keep (constantI S_ 1 0#1) reducesTo_S128x128_S128_d1 h_S_

/-- A word's sign. -/
def signWord (n : BitVec 32) : BitVec 32 := if n = 0 then 0 else if n.msb = true then -1 else 1

/-- The quotient's word. -/
def blkWord (n : BitVec 32) : BitVec 32 :=
  Scalar.select (IntOp.andi (IntOp.cmpi .ne (signWord n) (signWord 64#32))
      (IntOp.cmpi .ne (IntOp.remsi .host n 64#32) 0#32))
    (IntOp.subi (IntOp.divsi .host n 64#32) 1#32) (IntOp.divsi .host n 64#32)

/-- Four's word, and the remainder's. -/
def fourWord : BitVec 32 := Scalar.select (IntOp.cmpi .eq 4#32 0#32) 1#32 4#32
def modWord (n : BitVec 32) : BitVec 32 :=
  Scalar.select (IntOp.andi (IntOp.cmpi .ne (IntOp.cmpi .slt (IntOp.remsi .host n fourWord) 0#32) (IntOp.cmpi .slt fourWord 0#32))
      (IntOp.cmpi .ne (IntOp.remsi .host n fourWord) 0#32))
    (IntOp.addi (IntOp.remsi .host n fourWord) fourWord) (IntOp.remsi .host n fourWord)

theorem blk_apply (i : Fin 128) : blk (ix1 i) = BitVec.ofNat 32 (i.val / 64) := by
  have h : ∀ i : Fin 128, blkWord (BitVec.ofNat 32 i.val) = BitVec.ofNat 32 (i.val / 64) := by decide +kernel
  rw [← h i]
  simp only [blk, id_eq]
  pointwise
  rfl

theorem keepWord : ∀ a b : Fin 2, IntOp.ori (IntOp.cmpi .eq (BitVec.ofNat 32 a.val) (BitVec.ofNat 32 b.val))
    (IntOp.cmpi .eq (modWord (BitVec.ofNat 32 b.val)) (modWord (BitVec.ofNat 32 a.val))) = 1#1 ↔ a.val = b.val := by decide +kernel

/-- A token attends to the tokens of its own block. -/
theorem keep_apply (i j : Fin 128) : keep (ix2 i j) = 1#1 ↔ i.val / 64 = j.val / 64 := by
  have e : keep (ix2 i j) = IntOp.ori (IntOp.cmpi .eq (BitVec.ofNat 32 (i.val / 64)) (BitVec.ofNat 32 (j.val / 64)))
      (IntOp.cmpi .eq (modWord (BitVec.ofNat 32 (j.val / 64))) (modWord (BitVec.ofNat 32 (i.val / 64)))) := by
    simp only [keep, mod4, four, colBlk, rowBlk, id_eq]
    pointwise
    rw [blk_apply, blk_apply]
    rfl
  rw [e]
  exact keepWord ⟨i.val / 64, by omega⟩ ⟨j.val / 64, by omega⟩

theorem keepRow_apply (i : Fin 128) : keepRow (ix1 i) = 1#1 := by
  pointwise [keepRow]
  exact (Routing.fold_ori _ _).2 ⟨i, Finset.mem_univ i, (keep_apply i i).2 rfl⟩

/-! ## The softmax -/

section
variable {F : FTy → Type} [FloatOps F]
variable (x : FVec F S2x128x512 .f32) (wq : FVec F S512x2048 .f32) (k v : FVec F S2x128x32x64 .f32) (wo : FVec F S2048x512 .f32)

/-- The queries, cut into heads. -/
def queries : FVec F S2x128x32x64 .f32 :=
  shapeCast _ (Host.dotGeneral dot_S2x128x512_S512x2048_S2x128x2048_2_0_01_1_n_n none x wq) shapeCasts_S2x128x2048_S2x128x32x64

/-- The masked, scaled scores. -/
def scores (q : FVec F S2x128x32x64 .f32) : FVec F S2x32x128x128 .f32 :=
  select (broadcastInDim S2x32x128x128 ![0, 1, 2, 3] bcast_S1x1x128x128_S2x32x128x128_0_1_2_3 (broadcastInDim S1x1x128x128 ![2, 3] bcast_S128x128_S1x1x128x128_2_3 keep))
    (mulf (Host.dotGeneral dot_S2x128x32x64_S2x128x32x64_S2x32x128x128_3_3_1_1_02_02 none q k)
      (broadcastInDim S2x32x128x128 ![] bcast_S_S2x32x128x128 (constant S_ .f32 0x3E000000#32)))
    (broadcastInDim S2x32x128x128 ![] bcast_S_S2x32x128x128 (id (constant S_ .f32 0xFF800000#32)))

/-- The unnormalised weights. -/
def weights (s : FVec F S2x32x128x128 .f32) : FVec F S2x32x128x128 .f32 :=
  Host.exp (subf s (broadcastInDim S2x32x128x128 ![0, 1, 2, 3] bcast_S2x32x128x1_S2x32x128x128_0_1_2_3 (broadcastInDim S2x32x128x1 ![0, 1, 2] bcast_S2x32x128_S2x32x128x1_0_1_2
    (Host.reduce FloatOps.maximumf s (constant S_ .f32 0xFF800000#32) reducesTo_S2x32x128x128_S2x32x128_d3 h_S_))))

/-- The weights, normalised. -/
def normalised (w : FVec F S2x32x128x128 .f32) : FVec F S2x32x128x128 .f32 :=
  select (broadcastInDim S2x32x128x128 ![0, 1, 2, 3] bcast_S1x1x128x1_S2x32x128x128_0_1_2_3 (broadcastInDim S1x1x128x1 ![2] bcast_S128_S1x1x128x1_2 keepRow))
    (Host.divf w (broadcastInDim S2x32x128x128 ![0, 1, 2, 3] bcast_S2x32x128x1_S2x32x128x128_0_1_2_3
      (select (broadcastInDim S2x32x128x1 ![0, 1, 2, 3] bcast_S1x1x128x1_S2x32x128x1_0_1_2_3 (broadcastInDim S1x1x128x1 ![2] bcast_S128_S1x1x128x1_2 keepRow))
        (broadcastInDim S2x32x128x1 ![0, 1, 2] bcast_S2x32x128_S2x32x128x1_0_1_2 (Host.reduceAdd w (constant S_ .f32 0x00000000#32) reducesTo_S2x32x128x128_S2x32x128_d3 h_S_))
        (broadcastInDim S2x32x128x1 ![] bcast_S_S2x32x128x1 (id (constant S_ .f32 0x3F800000#32))))))
    (broadcastInDim S2x32x128x128 ![] bcast_S_S2x32x128x128 (id (constant S_ .f32 0x00000000#32)))

/-- The averages of the values, a token's heads side by side, times the output weights. -/
def output (p : FVec F S2x32x128x128 .f32) : FVec F S2x128x512 .f32 :=
  Host.dotGeneral dot_S2x128x2048_S2048x512_S2x128x512_2_0_01_1_n_n none
    (shapeCast _ (transpose S2x128x32x64 [0, 3, 1, 2] (Host.dotGeneral dot_S2x128x32x64_S2x32x128x128_S2x32x64x128_1_3_3_2_02_01 none v p) transposes_S2x32x64x128_S2x128x32x64_0_3_1_2)
      shapeCasts_S2x128x32x64_S2x128x2048) wo

theorem res_eq (m : (ℓ : Loc nD τ sig) → Buf (Elt F) ℓ) : res_main_v39 m 0
    = output (m (((0 : Dev nD) : Thread nD τ).loc main_arg3)) (m (((0 : Dev nD) : Thread nD τ).loc main_arg4))
        (normalised (weights (scores (m (((0 : Dev nD) : Thread nD τ).loc main_arg2))
          (queries (m (((0 : Dev nD) : Thread nD τ).loc main_arg0)) (m (((0 : Dev nD) : Thread nD τ).loc main_arg1)))))) := rfl

end

section
variable (x : FVec Ideal S2x128x512 .f32) (wq : FVec Ideal S512x2048 .f32) (k v : FVec Ideal S2x128x32x64 .f32) (wo : FVec Ideal S2048x512 .f32)

theorem queries_apply (b : Fin 2) (i : Fin 128) (h : Fin 32) (e : Fin 64) :
    queries x wq (ix4 b i h e) = ∑ c : Fin 512, (x (ix3 b i c) : EReal) * (wq (ix2 c ⟨64 * h.val + e.val, by omega⟩) : EReal) := by
  pointwise [queries]
  simp only [Nat.mul_comm]

theorem scores_apply (q : FVec Ideal S2x128x32x64 .f32) (b : Fin 2) (h : Fin 32) (i j : Fin 128) :
    scores k q (ix4 b h i j) = if i.val / 64 = j.val / 64 then (∑ e : Fin 64, (q (ix4 b i h e) : EReal) * (k (ix4 b j h e) : EReal)) * scale else (⊥ : EReal) := by
  rw [← if_congr (keep_apply i j) rfl rfl]
  simp only [scores, id_eq]
  pointwise [bits_bot]
  rfl

theorem weights_apply (s : FVec Ideal S2x32x128x128 .f32) (b : Fin 2) (h : Fin 32) (i j : Fin 128) :
    weights s (ix4 b h i j) = weight (fun j => (s (ix4 b h i j) : EReal)) j := by
  pointwise [weights, weight, top, bits_bot]

theorem normalised_apply (w : FVec Ideal S2x32x128x128 .f32) (b : Fin 2) (h : Fin 32) (i j : Fin 128) :
    normalised w (ix4 b h i j) = Ideal.div (w (ix4 b h i j)) (∑ j : Fin 128, (w (ix4 b h i j) : EReal)) := by
  pointwise [normalised]
  rw [keepRow_apply]
  rfl

theorem output_apply (p : FVec Ideal S2x32x128x128 .f32) (b : Fin 2) (i : Fin 128) (n : Fin 512) :
    output v wo p (ix3 b i n) = ∑ c : Fin 2048, (∑ j : Fin 128, (p (ix4 b ⟨c.val / 64, by omega⟩ i j) : EReal) * (v (ix4 b j ⟨c.val / 64, by omega⟩ ⟨c.val % 64, by omega⟩) : EReal)) * (wo (ix2 c n) : EReal) := by
  pointwise [output]
  exact Finset.sum_congr rfl fun c _ => congrArg (· * (wo (ix2 c n) : EReal)) (Finset.sum_congr rfl fun j _ => mul_comm _ _)

end

/-- The whole arrays of a memory. -/
def whole (m : (ℓ : Loc nD τ sig) → Buf (Elt Ideal) ℓ) : Whole where
  x := m (((0 : Dev nD) : Thread nD τ).loc main_arg0)
  wq := m (((0 : Dev nD) : Thread nD τ).loc main_arg1)
  k := m (((0 : Dev nD) : Thread nD τ).loc main_arg2)
  v := m (((0 : Dev nD) : Thread nD τ).loc main_arg3)
  wo := m (((0 : Dev nD) : Thread nD τ).loc main_arg4)

/-- The reference computes attention over all heads. -/
theorem res_apply (m : (ℓ : Loc nD τ sig) → Buf (Elt Ideal) ℓ) (b : Fin 2) (i : Fin 128) (n : Fin 512) :
    res_main_v39 m 0 (ix3 b i n) = (whole m).out b i n := by
  rw [res_eq]
  refine (output_apply _ _ _ _ _ _).trans (Finset.sum_congr (M := EReal) rfl fun c _ => ?_)
  unfold Whole.term Whole.ctx soft
  refine congrArg (· * ((whole m).wo (ix2 c n) : EReal)) (Finset.sum_congr rfl fun j _ => ?_)
  have hs : (fun j => (scores (F := Ideal) (m (((0 : Dev nD) : Thread nD τ).loc main_arg2))
      (queries (F := Ideal) (m (((0 : Dev nD) : Thread nD τ).loc main_arg0)) (m (((0 : Dev nD) : Thread nD τ).loc main_arg1))) (ix4 b ⟨c.val / 64, by omega⟩ i j) : EReal))
      = (whole m).masked b ⟨c.val / 64, by omega⟩ i := by
    funext j
    rw [scores_apply]
    simp only [queries_apply]
    rfl
  rw [normalised_apply]
  simp only [weights_apply, hs]
  rfl

end Cert.Proof.Ref

end
-- ==== Proof.Meaning.lean ====
/-
The kernel computes the reference: when the tokens, the query weights and the keys are finite, the sum of the devices'
partial products is attention over all heads.
-/
module

public import proofs.«01_k».proof.Defs
public import proofs.«01_k».proof.Proof.Frames
public import proofs.«01_k».proof.Proof.Slices
public import proofs.«01_k».proof.Proof.Total
public import proofs.«01_k».proof.Proof.RefValue
public import Idealize.ShloMosaic.Lib.ReduceAll
public import Idealize.ShloMosaic.Lib.Affine

@[expose] public section

noncomputable section

namespace Cert.Proof

open Idealize.ShloMosaic Idealize.SL.Sem
open Cert.KernelIdeal (nD τ sig)

/-! ## The precondition -/

theorem pre_kernel_facts : Cert.Pre_finite_scores_KernelIdeal.Facts :=
  ⟨by decide, by decide, by decide, by decide, by decide, by decide, by decide⟩
theorem pre_reference_facts : Cert.Pre_finite_scores_ReferenceIdeal.Facts :=
  ⟨by decide, by decide, by decide, by decide, by decide, by decide, by decide⟩

/-- Below +∞ in absolute value is finite. -/
theorem isReal_of_abs_lt {a : EReal} (h : max a (-a) < ⊤) : IsReal a := by
  have h1 : a ≠ ⊤ := (lt_of_le_of_lt (le_max_left _ _) h).ne
  have h2 : a ≠ ⊥ := fun e => (lt_of_le_of_lt (le_max_right _ _) h).ne (by rw [e]; rfl)
  exact ⟨_, (EReal.coe_toReal h1 h2).symm⟩

theorem bits_top : Ideal.ofBits .f32 0x7F800000#32 = ⊤ := by simp [Ideal.ofBits, Ideal.ieee]

theorem isReal_of_cmp {a : EReal} (h : Ideal.cmp .olt (max a (-a)) (Ideal.ofBits .f32 0x7F800000#32) = 1#1) : IsReal a := by
  rw [bits_top] at h
  refine isReal_of_abs_lt ?_
  by_contra hn
  have : Ideal.cmp .olt (max a (-a)) ⊤ = 0#1 := by
    show BitVec.ofBool (decide (max a (-a) < ⊤)) = 0#1
    rw [decide_eq_false hn]; rfl
  rw [this] at h
  exact absurd h (by decide)

/-- The shape of a single number has one index. -/
theorem one_index : Subsingleton (⟨0, ![]⟩ : Shape).Idx := ⟨fun i j => funext fun a => a.elim0⟩

/-- Where an array's test against +∞ holds everywhere, the array is finite. -/
theorem isReal_of_all {s : Shape} {axes : List (Fin s.rank)} (a : FVec Ideal s .f32)
    (hb : (⟨0, ![]⟩ : Shape).BroadcastsInDim s (![] : Fin 0 → Fin s.rank)) (hr : s.ReducesTo axes ⟨0, ![]⟩) (hu : 0 < (⟨0, ![]⟩ : Shape).numel)
    (j : (⟨0, ![]⟩ : Shape).Idx)
    (h : Host.reduce IntOp.andi (cmpf .olt (Host.absf a) (broadcastInDim s ![] hb (constant (F := Ideal) ⟨0, ![]⟩ .f32 0x7F800000#32)))
      (constantI ⟨0, ![]⟩ 1 1#1) hr hu j = 1#1) (i : s.Idx) : IsReal (a i) :=
  haveI := one_index
  isReal_of_cmp (Host.reduce_andi_all _ _ hr hu j h i)

/-- What the precondition says of a device's arguments. -/
theorem isReal_of_pre [Cert.Pre_finite_scores_KernelIdeal.Facts] (x : FVec Ideal ⟨3, ![2, 128, 512]⟩ .f32) (wq : FVec Ideal ⟨2, ![512, 2048]⟩ .f32)
    (k v : FVec Ideal ⟨4, ![2, 128, 4, 64]⟩ .f32) (wo : FVec Ideal ⟨2, ![2048, 512]⟩ .f32)
    (h : Cert.Pre_finite_scores_KernelIdeal.fn x wq k v wo = fun _ => 1#1) :
    (∀ i, IsReal (x i)) ∧ (∀ i, IsReal (wq i)) ∧ ∀ i, IsReal (k i) := by
  let j : (⟨0, ![]⟩ : Shape).Idx := fun a => a.elim0
  have h0 := congrFun h j
  obtain ⟨h12, h3⟩ := IntOp.andi_eq_one.1 h0
  obtain ⟨h1, h2⟩ := IntOp.andi_eq_one.1 h12
  open Cert.Pre_finite_scores_KernelIdeal.Facts in
  exact ⟨isReal_of_all x bcast_S_S2x128x512 reducesTo_S2x128x512_S_d0_1_2 h_S_ j h1,
    isReal_of_all wq bcast_S_S512x2048 reducesTo_S512x2048_S_d0_1 h_S_ j h2,
    isReal_of_all k bcast_S_S2x128x4x64 reducesTo_S2x128x4x64_S_d0_1_2_3 h_S_ j h3⟩

/-! ## The devices' shares -/

section
variable (m : (ℓ : Loc nD τ sig) → Buf (Elt Ideal) ℓ)
  (m' : (ℓ : Loc Cert.ReferenceIdeal.nD Cert.ReferenceIdeal.τ Cert.ReferenceIdeal.sig) → Buf (Elt Ideal) ℓ)

/-- The devices' arguments are the reference's: the keys and values cut into blocks of four heads, the others whole. -/
structure Agree (c : Dev nD) : Prop where
  x : m ((c.tc : Thread nD τ).loc Cert.KernelIdeal.main_arg0) = (Ref.whole m').x
  wq : m ((c.tc : Thread nD τ).loc Cert.KernelIdeal.main_arg1) = (Ref.whole m').wq
  k : m ((c.tc : Thread nD τ).loc Cert.KernelIdeal.main_arg2) = Layout.block ⟨4, ![2, 128, 4, 64]⟩ ⟨4, ![2, 128, 32, 64]⟩ 2 8 c (Ref.whole m').k
  v : m ((c.tc : Thread nD τ).loc Cert.KernelIdeal.main_arg3) = Layout.block ⟨4, ![2, 128, 4, 64]⟩ ⟨4, ![2, 128, 32, 64]⟩ 2 8 c (Ref.whole m').v
  wo : m ((c.tc : Thread nD τ).loc Cert.KernelIdeal.main_arg4) = (Ref.whole m').wo

/-- A device's block of heads, read at an index. -/
theorem block_heads (w : Vec Ideal ⟨4, ![2, 128, 32, 64]⟩ .f32) (c : Fin 8) (ht : Layout.Tiles ⟨4, ![2, 128, 4, 64]⟩ ⟨4, ![2, 128, 32, 64]⟩ 2 8)
    (b : Fin 2) (j : Fin 128) (h : Fin 4) (e : Fin 64) (hlt : 4 * c.val + h.val < 32) :
    Layout.block ⟨4, ![2, 128, 4, 64]⟩ ⟨4, ![2, 128, 32, 64]⟩ 2 8 c w ht (ix4 b j h e) = w (ix4 b j ⟨4 * c.val + h.val, hlt⟩ e) := by
  rw [Layout.block_apply]
  refine congrArg w (funext fun a => Fin.ext ?_)
  rw [Layout.Tiles.idx_val]
  fin_cases a
  · rfl
  · rfl
  · exact congrArg (· + h.val) (Nat.mul_comm c.val 4)
  · rfl

variable {m m'}

theorem Agree.shard {c : Dev nD} (A : Agree m m' c) : Shard (Ref.whole m') c (xIn m c) (wqIn m c) (kIn m c) (vIn m c) (woIn m c) where
  x b i e := by rw [xIn_eq, A.x]
  wq e k := by rw [wqIn_apply, A.wq]
  k b j h e := by rw [kIn_eq, A.k]; exact block_heads _ c _ b j h e _
  v b j h e := by rw [vIn_eq, A.v]; exact block_heads _ c _ b j h e _
  wo k n := by rw [woIn_apply, A.wo]

theorem finite_of_agree (A : ∀ c, Agree m m' c)
    (hx : ∀ i, IsReal (m (((0 : Dev nD).tc : Thread nD τ).loc Cert.KernelIdeal.main_arg0) i))
    (hwq : ∀ i, IsReal (m (((0 : Dev nD).tc : Thread nD τ).loc Cert.KernelIdeal.main_arg1) i))
    (hk : ∀ (c : Dev nD) i, IsReal (m ((c.tc : Thread nD τ).loc Cert.KernelIdeal.main_arg2) i)) : (Ref.whole m').Finite where
  x b i e := by rw [← (A 0).x]; exact hx _
  wq e c := by rw [← (A 0).wq]; exact hwq _
  k b j h e := by
    have hr := hk ⟨h.val / 4, by show _ < 8; omega⟩ (ix4 b j ⟨h.val % 4, by omega⟩ e)
    have hv : 4 * (h.val / 4) + h.val % 4 = h.val := by omega
    rw [(A _).k, block_heads _ ⟨h.val / 4, by omega⟩ _ b j ⟨h.val % 4, by omega⟩ e (by show 4 * (h.val / 4) + h.val % 4 < 32; omega)] at hr
    rwa [show (⟨4 * (h.val / 4) + h.val % 4, by omega⟩ : Fin 32) = h from Fin.ext hv] at hr

/-- The 2048 columns are the devices' 256 columns, device after device. -/
theorem sum_columns (f : Fin 2048 → EReal) : ∑ d : Fin 8, ∑ k : Fin 256, f ⟨256 * d.val + k.val, by omega⟩ = ∑ c : Fin 2048, f c := by
  rw [← Fintype.sum_prod_type', ← (finProdFinEquiv (m := 8) (n := 256)).sum_comp]
  exact Finset.sum_congr rfl fun p _ => congrArg f (Fin.ext (Nat.add_comm _ _))

/-- The result is the reference's. -/
theorem out_eq (A : ∀ c, Agree m m' c) (hW : (Ref.whole m').Finite) : (out m : Res Ideal) = Cert.ReferenceIdeal.Value.res_out0 m' 0 := by
  have key : ∀ (b : Fin 2) (r : Fin 128) (n : Fin 512), result (parts m) (ix3 b r n) = Cert.ReferenceIdeal.Value.res_main_v39 m' 0 (ix3 b r n) := fun b r n => by
    refine (result_apply _ b r n).trans (Eq.trans ?_ (Ref.res_apply m' b r n).symm)
    refine Eq.trans ?_ (sum_columns fun c => (Ref.whole m').term b r n c)
    exact Finset.sum_congr (M := EReal) rfl fun d _ => (A d).shard.part hW b r n
  refine funext fun (i : Cert.KernelIdeal.S2x128x512.Idx) => ?_
  idx_vars i
  exact key _ _ _

end

/-- The kernel computes the reference. -/
theorem algebraic : Cert.algebraic_KernelIdeal_ReferenceIdeal_pre_finite_scores_KernelIdeal (hKernelIdeal := Cert.KernelIdeal.Gen.facts)
    (hReferenceIdeal := Cert.ReferenceIdeal.Gen.facts) (hPre_finite_scores_KernelIdeal := pre_kernel_facts) := by
  haveI := pre_kernel_facts
  intro m g m' g' hpre hagree
  have A : ∀ c, Agree m m' c := fun c => ⟨(hagree c).1, (hagree c).2.1, (hagree c).2.2.1, (hagree c).2.2.2.1, (hagree c).2.2.2.2⟩
  have hp := fun c => isReal_of_pre _ _ _ _ _ (hpre c)
  have hW := finite_of_agree A (hp 0).1 (hp 0).2.1 fun c => (hp c).2.2
  refine ⟨Cert.ReferenceIdeal.Value.res_out0 m' 0, (θ_run _ _ _).mono (fun r h c => ?_) (run_main (F := Ideal) m g),
    (θ_run _ _ _).mono (fun r h => h 0) (Cert.ReferenceIdeal.Value.run (F := Ideal) m' g')⟩
  exact ⟨(h.1 c).2.trans (out_eq A hW), (h.1 c).1⟩

/-- The runs under the precondition are runs. -/
theorem frame_ideal_pre : Cert.quiescent_KernelIdeal_pre_finite_scores_KernelIdeal (hKernelIdeal := Cert.KernelIdeal.Gen.facts)
    (hPre_finite_scores_KernelIdeal := pre_kernel_facts) := fun m ρ _ => frame_ideal m ρ trivial

theorem frame_reference_pre : Cert.quiescent_ReferenceIdeal_pre_finite_scores_ReferenceIdeal (hReferenceIdeal := Cert.ReferenceIdeal.Gen.facts)
    (hPre_finite_scores_ReferenceIdeal := pre_reference_facts) := fun m ρ _ => frame_reference m ρ trivial

end Cert.Proof

end
-- ==== Proof.lean ====
/- The claims, put together from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Meaning
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  pre_kernel_facts, pre_reference_facts, frame_kernel, frame_ideal, frame_ideal_pre, frame_reference, frame_reference_pre, preserves, algebraic⟩

end Cert.Proof

end
